-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x8192 : Shape := ⟨2, ![256, 8192]⟩
abbrev S1 : Shape := ⟨1, ![1]⟩
abbrev S2x256x1024 : Shape := ⟨3, ![2, 256, 1024]⟩
abbrev S2 : Shape := ⟨1, ![2]⟩
abbrev S_ : Shape := ⟨0, ![]⟩
abbrev S256x256 : Shape := ⟨2, ![256, 256]⟩
abbrev S256x1024 : Shape := ⟨2, ![256, 1024]⟩
abbrev S1x256x1024 : Shape := ⟨3, ![1, 256, 1024]⟩

abbrev nBuf : Space → Nat
  | .hbm => 5
  | .vmem => 19
  | .smem => 2
  | _ => 0

abbrev bufTy : (tb : Table) → Fin (tcTables nBuf tb) → BufTy
  | .hbm, ⟨0, _⟩ => ⟨S4096x256, .fp8e4m3⟩
  | .hbm, ⟨1, _⟩ => ⟨S256x8192, .fp8e4m3⟩
  | .hbm, ⟨2, _⟩ => ⟨S1, .f32⟩
  | .hbm, ⟨3, _⟩ => ⟨S1, .f32⟩
  | .hbm, ⟨4, _⟩ => ⟨S256x8192, .f32⟩
  | .local _ .vmem, ⟨0, _⟩ => ⟨S4096x256, .fp8e4m3⟩
  | .local _ .vmem, ⟨1, _⟩ => ⟨S256x8192, .fp8e4m3⟩
  | .local _ .vmem, ⟨2, _⟩ => ⟨S256x8192, .f32⟩
  | .local _ .vmem, ⟨3, _⟩ => ⟨S2x256x1024, .bf16⟩
  | .local _ .vmem, ⟨4, _⟩ => ⟨S2x256x1024, .bf16⟩
  | .local _ .vmem, ⟨5, _⟩ => ⟨S2x256x1024, .bf16⟩
  | .local _ .vmem, ⟨6, _⟩ => ⟨S2x256x1024, .bf16⟩
  | .local _ .vmem, ⟨7, _⟩ => ⟨S2x256x1024, .bf16⟩
  | .local _ .vmem, ⟨8, _⟩ => ⟨S2x256x1024, .bf16⟩
  | .local _ .vmem, ⟨9, _⟩ => ⟨S2x256x1024, .bf16⟩
  | .local _ .vmem, ⟨10, _⟩ => ⟨S2x256x1024, .bf16⟩
  | .local _ .vmem, ⟨11, _⟩ => ⟨S2x256x1024, .bf16⟩
  | .local _ .vmem, ⟨12, _⟩ => ⟨S2x256x1024, .bf16⟩
  | .local _ .vmem, ⟨13, _⟩ => ⟨S2x256x1024, .bf16⟩
  | .local _ .vmem, ⟨14, _⟩ => ⟨S2x256x1024, .bf16⟩
  | .local _ .vmem, ⟨15, _⟩ => ⟨S2x256x1024, .bf16⟩
  | .local _ .vmem, ⟨16, _⟩ => ⟨S2x256x1024, .bf16⟩
  | .local _ .vmem, ⟨17, _⟩ => ⟨S2x256x1024, .bf16⟩
  | .local _ .vmem, ⟨18, _⟩ => ⟨S2x256x1024, .bf16⟩
  | .local _ .smem, ⟨0, _⟩ => ⟨S1, .f32⟩
  | .local _ .smem, ⟨1, _⟩ => ⟨S1, .f32⟩
  | _, _ => ⟨S4096x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 9 37 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_scratch15 : Ref sig .tc := ⟨.vmem, 18, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 8

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_11 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_10 : BitVec 32 := 1#32
  let v13 : BitVec 32 := Scalar.subi v2 c1_i32_10
  let v14 : BitVec 32 := Scalar.subi v13 c0_i32_11
  let c32_i32 : BitVec 32 := 32#32
  let v15 : BitVec 32 := Scalar.addi v14 c32_i32
  let c16_i32_12 : BitVec 32 := 16#32
  let v16 : BitVec 32 := Scalar.remsi v15 c16_i32_12
  let c256_i32 : BitVec 32 := 256#32
  let v20 : BitVec 32 := Scalar.muli v16 c256_i32
  let v21 : Index := Scalar.indexCast v20
  let c0 : Index := 0#32
  ![v21.toNat, 0]
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_25 : BitVec 32 := 1#32
  let v33 : BitVec 32 := Scalar.muli v7 c1_i32_25
  let v34 : BitVec 32 := Scalar.addi c0_i32_26 v33
  v34.toNat
def k0_off2 (d0 : Dev nD) (c0_i32_14 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_13 : BitVec 32 := 1#32
  let v17 : BitVec 32 := Scalar.addi v2 c1_i32_13
  let v18 : BitVec 32 := Scalar.addi v17 c0_i32_14
  let c16_i32_15 : BitVec 32 := 16#32
  let v19 : BitVec 32 := Scalar.remsi v18 c16_i32_15
  let c256_i32_31 : BitVec 32 := 256#32
  let v43 : BitVec 32 := Scalar.muli v19 c256_i32_31
  let v44 : Index := Scalar.indexCast v43
  let c0_32 : Index := 0#32
  ![v44.toNat, 0]
def k0_dev4 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_42 : BitVec 32 := 1#32
  let v56 : BitVec 32 := Scalar.muli v5 c1_i32_42
  let v57 : BitVec 32 := Scalar.addi c0_i32_43 v56
  v57.toNat
def k0_dev5 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_59 : BitVec 32 := 1#32
  let v79 : BitVec 32 := Scalar.muli v7 c1_i32_59
  let v80 : BitVec 32 := Scalar.addi c0_i32_60 v79
  v80.toNat
def k0_dev6 (d0 : Dev nD) : Nat :=
  let c0_i32_77 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_76 : BitVec 32 := 1#32
  let v102 : BitVec 32 := Scalar.muli v5 c1_i32_76
  let v103 : BitVec 32 := Scalar.addi c0_i32_77 v102
  v103.toNat
def k0_dev7 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_93 : BitVec 32 := 1#32
  let v125 : BitVec 32 := Scalar.muli v7 c1_i32_93
  let v126 : BitVec 32 := Scalar.addi c0_i32_94 v125
  v126.toNat
def k0_dev8 (d0 : Dev nD) : Nat :=
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_110 : BitVec 32 := 1#32
  let v148 : BitVec 32 := Scalar.muli v5 c1_i32_110
  let v149 : BitVec 32 := Scalar.addi c0_i32_111 v148
  v149.toNat
def k0_dev9 (d0 : Dev nD) : Nat :=
  let c0_i32_128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_127 : BitVec 32 := 1#32
  let v171 : BitVec 32 := Scalar.muli v7 c1_i32_127
  let v172 : BitVec 32 := Scalar.addi c0_i32_128 v171
  v172.toNat
def k0_dev10 (d0 : Dev nD) : Nat :=
  let c0_i32_145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_144 : BitVec 32 := 1#32
  let v194 : BitVec 32 := Scalar.muli v5 c1_i32_144
  let v195 : BitVec 32 := Scalar.addi c0_i32_145 v194
  v195.toNat
def k0_dev11 (d0 : Dev nD) : Nat :=
  let c0_i32_214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_213 : BitVec 32 := 1#32
  let v299 : BitVec 32 := Scalar.muli v5 c1_i32_213
  let v300 : BitVec 32 := Scalar.addi c0_i32_214 v299
  v300.toNat
def k0_dev12 (d0 : Dev nD) : Nat :=
  let c0_i32_220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_219 : BitVec 32 := 1#32
  let v301 : BitVec 32 := Scalar.muli v7 c1_i32_219
  let v302 : BitVec 32 := Scalar.addi c0_i32_220 v301
  v302.toNat
def k0_dev13 (d0 : Dev nD) : Nat :=
  let c0_i32_243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_242 : BitVec 32 := 1#32
  let v327 : BitVec 32 := Scalar.muli v7 c1_i32_242
  let v328 : BitVec 32 := Scalar.addi c0_i32_243 v327
  v328.toNat
def k0_dev14 (d0 : Dev nD) : Nat :=
  let c0_i32_249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_248 : BitVec 32 := 1#32
  let v329 : BitVec 32 := Scalar.muli v5 c1_i32_248
  let v330 : BitVec 32 := Scalar.addi c0_i32_249 v329
  v330.toNat
def k0_dev15 (d0 : Dev nD) : Nat :=
  let c0_i32_272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_271 : BitVec 32 := 1#32
  let v355 : BitVec 32 := Scalar.muli v5 c1_i32_271
  let v356 : BitVec 32 := Scalar.addi c0_i32_272 v355
  v356.toNat
def k0_dev16 (d0 : Dev nD) : Nat :=
  let c0_i32_278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_277 : BitVec 32 := 1#32
  let v357 : BitVec 32 := Scalar.muli v7 c1_i32_277
  let v358 : BitVec 32 := Scalar.addi c0_i32_278 v357
  v358.toNat
def k0_dev17 (d0 : Dev nD) : Nat :=
  let c0_i32_301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_300 : BitVec 32 := 1#32
  let v383 : BitVec 32 := Scalar.muli v7 c1_i32_300
  let v384 : BitVec 32 := Scalar.addi c0_i32_301 v383
  v384.toNat
def k0_dev18 (d0 : Dev nD) : Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_306 : BitVec 32 := 1#32
  let v385 : BitVec 32 := Scalar.muli v5 c1_i32_306
  let v386 : BitVec 32 := Scalar.addi c0_i32_307 v385
  v386.toNat
def k0_dev19 (d0 : Dev nD) : Nat :=
  let c0_i32_330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_329 : BitVec 32 := 1#32
  let v411 : BitVec 32 := Scalar.muli v5 c1_i32_329
  let v412 : BitVec 32 := Scalar.addi c0_i32_330 v411
  v412.toNat
def k0_dev20 (d0 : Dev nD) : Nat :=
  let c0_i32_336 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_335 : BitVec 32 := 1#32
  let v413 : BitVec 32 := Scalar.muli v7 c1_i32_335
  let v414 : BitVec 32 := Scalar.addi c0_i32_336 v413
  v414.toNat
def k0_dev21 (d0 : Dev nD) : Nat :=
  let c0_i32_359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_358 : BitVec 32 := 1#32
  let v439 : BitVec 32 := Scalar.muli v7 c1_i32_358
  let v440 : BitVec 32 := Scalar.addi c0_i32_359 v439
  v440.toNat
def k0_dev22 (d0 : Dev nD) : Nat :=
  let c0_i32_365 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_364 : BitVec 32 := 1#32
  let v441 : BitVec 32 := Scalar.muli v5 c1_i32_364
  let v442 : BitVec 32 := Scalar.addi c0_i32_365 v441
  v442.toNat
def k0_dev23 (d0 : Dev nD) : Nat :=
  let c0_i32_388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_387 : BitVec 32 := 1#32
  let v467 : BitVec 32 := Scalar.muli v5 c1_i32_387
  let v468 : BitVec 32 := Scalar.addi c0_i32_388 v467
  v468.toNat
def k0_dev24 (d0 : Dev nD) : Nat :=
  let c0_i32_394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_393 : BitVec 32 := 1#32
  let v469 : BitVec 32 := Scalar.muli v7 c1_i32_393
  let v470 : BitVec 32 := Scalar.addi c0_i32_394 v469
  v470.toNat
def k0_dev25 (d0 : Dev nD) : Nat :=
  let c0_i32_417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_416 : BitVec 32 := 1#32
  let v495 : BitVec 32 := Scalar.muli v7 c1_i32_416
  let v496 : BitVec 32 := Scalar.addi c0_i32_417 v495
  v496.toNat
def k0_dev26 (d0 : Dev nD) : Nat :=
  let c0_i32_423 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_422 : BitVec 32 := 1#32
  let v497 : BitVec 32 := Scalar.muli v5 c1_i32_422
  let v498 : BitVec 32 := Scalar.addi c0_i32_423 v497
  v498.toNat
def k0_dev27 (d0 : Dev nD) : Nat :=
  let c0_i32_504 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_503 : BitVec 32 := 1#32
  let v608 : BitVec 32 := Scalar.muli v5 c1_i32_503
  let v609 : BitVec 32 := Scalar.addi c0_i32_504 v608
  v609.toNat
def k0_dev28 (d0 : Dev nD) : Nat :=
  let c0_i32_510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_509 : BitVec 32 := 1#32
  let v610 : BitVec 32 := Scalar.muli v7 c1_i32_509
  let v611 : BitVec 32 := Scalar.addi c0_i32_510 v610
  v611.toNat
def k0_dev29 (d0 : Dev nD) : Nat :=
  let c0_i32_544 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_543 : BitVec 32 := 1#32
  let v642 : BitVec 32 := Scalar.muli v7 c1_i32_543
  let v643 : BitVec 32 := Scalar.addi c0_i32_544 v642
  v643.toNat
def k0_dev30 (d0 : Dev nD) : Nat :=
  let c0_i32_550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_549 : BitVec 32 := 1#32
  let v644 : BitVec 32 := Scalar.muli v5 c1_i32_549
  let v645 : BitVec 32 := Scalar.addi c0_i32_550 v644
  v645.toNat
def k0_dev31 (d0 : Dev nD) : Nat :=
  let c0_i32_584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_583 : BitVec 32 := 1#32
  let v676 : BitVec 32 := Scalar.muli v5 c1_i32_583
  let v677 : BitVec 32 := Scalar.addi c0_i32_584 v676
  v677.toNat
def k0_dev32 (d0 : Dev nD) : Nat :=
  let c0_i32_590 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_589 : BitVec 32 := 1#32
  let v678 : BitVec 32 := Scalar.muli v7 c1_i32_589
  let v679 : BitVec 32 := Scalar.addi c0_i32_590 v678
  v679.toNat
def k0_dev33 (d0 : Dev nD) : Nat :=
  let c0_i32_624 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_623 : BitVec 32 := 1#32
  let v710 : BitVec 32 := Scalar.muli v7 c1_i32_623
  let v711 : BitVec 32 := Scalar.addi c0_i32_624 v710
  v711.toNat
def k0_dev34 (d0 : Dev nD) : Nat :=
  let c0_i32_630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_629 : BitVec 32 := 1#32
  let v712 : BitVec 32 := Scalar.muli v5 c1_i32_629
  let v713 : BitVec 32 := Scalar.addi c0_i32_630 v712
  v713.toNat
def k0_dev35 (d0 : Dev nD) : Nat :=
  let c0_i32_664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_663 : BitVec 32 := 1#32
  let v744 : BitVec 32 := Scalar.muli v5 c1_i32_663
  let v745 : BitVec 32 := Scalar.addi c0_i32_664 v744
  v745.toNat
def k0_dev36 (d0 : Dev nD) : Nat :=
  let c0_i32_670 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_669 : BitVec 32 := 1#32
  let v746 : BitVec 32 := Scalar.muli v7 c1_i32_669
  let v747 : BitVec 32 := Scalar.addi c0_i32_670 v746
  v747.toNat
def k0_dev37 (d0 : Dev nD) : Nat :=
  let c0_i32_704 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_703 : BitVec 32 := 1#32
  let v778 : BitVec 32 := Scalar.muli v7 c1_i32_703
  let v779 : BitVec 32 := Scalar.addi c0_i32_704 v778
  v779.toNat
def k0_dev38 (d0 : Dev nD) : Nat :=
  let c0_i32_710 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_709 : BitVec 32 := 1#32
  let v780 : BitVec 32 := Scalar.muli v5 c1_i32_709
  let v781 : BitVec 32 := Scalar.addi c0_i32_710 v780
  v781.toNat
def k0_dev39 (d0 : Dev nD) : Nat :=
  let c0_i32_744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_743 : BitVec 32 := 1#32
  let v812 : BitVec 32 := Scalar.muli v5 c1_i32_743
  let v813 : BitVec 32 := Scalar.addi c0_i32_744 v812
  v813.toNat
def k0_dev40 (d0 : Dev nD) : Nat :=
  let c0_i32_750 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_749 : BitVec 32 := 1#32
  let v814 : BitVec 32 := Scalar.muli v7 c1_i32_749
  let v815 : BitVec 32 := Scalar.addi c0_i32_750 v814
  v815.toNat
def k0_dev41 (d0 : Dev nD) : Nat :=
  let c0_i32_784 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_783 : BitVec 32 := 1#32
  let v846 : BitVec 32 := Scalar.muli v7 c1_i32_783
  let v847 : BitVec 32 := Scalar.addi c0_i32_784 v846
  v847.toNat
def k0_dev42 (d0 : Dev nD) : Nat :=
  let c0_i32_790 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_789 : BitVec 32 := 1#32
  let v848 : BitVec 32 := Scalar.muli v5 c1_i32_789
  let v849 : BitVec 32 := Scalar.addi c0_i32_790 v848
  v849.toNat
def k0_dev43 (d0 : Dev nD) : Nat :=
  let c0_i32_870 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_869 : BitVec 32 := 1#32
  let v959 : BitVec 32 := Scalar.muli v5 c1_i32_869
  let v960 : BitVec 32 := Scalar.addi c0_i32_870 v959
  v960.toNat
def k0_dev44 (d0 : Dev nD) : Nat :=
  let c0_i32_876 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_875 : BitVec 32 := 1#32
  let v961 : BitVec 32 := Scalar.muli v7 c1_i32_875
  let v962 : BitVec 32 := Scalar.addi c0_i32_876 v961
  v962.toNat
def k0_dev45 (d0 : Dev nD) : Nat :=
  let c0_i32_910 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_909 : BitVec 32 := 1#32
  let v993 : BitVec 32 := Scalar.muli v7 c1_i32_909
  let v994 : BitVec 32 := Scalar.addi c0_i32_910 v993
  v994.toNat
def k0_dev46 (d0 : Dev nD) : Nat :=
  let c0_i32_916 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_915 : BitVec 32 := 1#32
  let v995 : BitVec 32 := Scalar.muli v5 c1_i32_915
  let v996 : BitVec 32 := Scalar.addi c0_i32_916 v995
  v996.toNat
def k0_dev47 (d0 : Dev nD) : Nat :=
  let c0_i32_950 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_949 : BitVec 32 := 1#32
  let v1027 : BitVec 32 := Scalar.muli v5 c1_i32_949
  let v1028 : BitVec 32 := Scalar.addi c0_i32_950 v1027
  v1028.toNat
def k0_dev48 (d0 : Dev nD) : Nat :=
  let c0_i32_956 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_955 : BitVec 32 := 1#32
  let v1029 : BitVec 32 := Scalar.muli v7 c1_i32_955
  let v1030 : BitVec 32 := Scalar.addi c0_i32_956 v1029
  v1030.toNat
def k0_dev49 (d0 : Dev nD) : Nat :=
  let c0_i32_990 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_989 : BitVec 32 := 1#32
  let v1061 : BitVec 32 := Scalar.muli v7 c1_i32_989
  let v1062 : BitVec 32 := Scalar.addi c0_i32_990 v1061
  v1062.toNat
def k0_dev50 (d0 : Dev nD) : Nat :=
  let c0_i32_996 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_995 : BitVec 32 := 1#32
  let v1063 : BitVec 32 := Scalar.muli v5 c1_i32_995
  let v1064 : BitVec 32 := Scalar.addi c0_i32_996 v1063
  v1064.toNat
def k0_dev51 (d0 : Dev nD) : Nat :=
  let c0_i32_1030 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1029 : BitVec 32 := 1#32
  let v1095 : BitVec 32 := Scalar.muli v5 c1_i32_1029
  let v1096 : BitVec 32 := Scalar.addi c0_i32_1030 v1095
  v1096.toNat
def k0_dev52 (d0 : Dev nD) : Nat :=
  let c0_i32_1036 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1035 : BitVec 32 := 1#32
  let v1097 : BitVec 32 := Scalar.muli v7 c1_i32_1035
  let v1098 : BitVec 32 := Scalar.addi c0_i32_1036 v1097
  v1098.toNat
def k0_dev53 (d0 : Dev nD) : Nat :=
  let c0_i32_1070 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1069 : BitVec 32 := 1#32
  let v1129 : BitVec 32 := Scalar.muli v7 c1_i32_1069
  let v1130 : BitVec 32 := Scalar.addi c0_i32_1070 v1129
  v1130.toNat
def k0_dev54 (d0 : Dev nD) : Nat :=
  let c0_i32_1076 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1075 : BitVec 32 := 1#32
  let v1131 : BitVec 32 := Scalar.muli v5 c1_i32_1075
  let v1132 : BitVec 32 := Scalar.addi c0_i32_1076 v1131
  v1132.toNat
def k0_dev55 (d0 : Dev nD) : Nat :=
  let c0_i32_1110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1109 : BitVec 32 := 1#32
  let v1163 : BitVec 32 := Scalar.muli v5 c1_i32_1109
  let v1164 : BitVec 32 := Scalar.addi c0_i32_1110 v1163
  v1164.toNat
def k0_dev56 (d0 : Dev nD) : Nat :=
  let c0_i32_1116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1115 : BitVec 32 := 1#32
  let v1165 : BitVec 32 := Scalar.muli v7 c1_i32_1115
  let v1166 : BitVec 32 := Scalar.addi c0_i32_1116 v1165
  v1166.toNat
def k0_dev57 (d0 : Dev nD) : Nat :=
  let c0_i32_1150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1149 : BitVec 32 := 1#32
  let v1197 : BitVec 32 := Scalar.muli v7 c1_i32_1149
  let v1198 : BitVec 32 := Scalar.addi c0_i32_1150 v1197
  v1198.toNat
def k0_dev58 (d0 : Dev nD) : Nat :=
  let c0_i32_1156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1155 : BitVec 32 := 1#32
  let v1199 : BitVec 32 := Scalar.muli v5 c1_i32_1155
  let v1200 : BitVec 32 := Scalar.addi c0_i32_1156 v1199
  v1200.toNat
def k0_dev59 (d0 : Dev nD) : Nat :=
  let c0_i32_1236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1235 : BitVec 32 := 1#32
  let v1310 : BitVec 32 := Scalar.muli v5 c1_i32_1235
  let v1311 : BitVec 32 := Scalar.addi c0_i32_1236 v1310
  v1311.toNat
def k0_dev60 (d0 : Dev nD) : Nat :=
  let c0_i32_1242 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1241 : BitVec 32 := 1#32
  let v1312 : BitVec 32 := Scalar.muli v7 c1_i32_1241
  let v1313 : BitVec 32 := Scalar.addi c0_i32_1242 v1312
  v1313.toNat
def k0_dev61 (d0 : Dev nD) : Nat :=
  let c0_i32_1276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1275 : BitVec 32 := 1#32
  let v1344 : BitVec 32 := Scalar.muli v7 c1_i32_1275
  let v1345 : BitVec 32 := Scalar.addi c0_i32_1276 v1344
  v1345.toNat
def k0_dev62 (d0 : Dev nD) : Nat :=
  let c0_i32_1282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1281 : BitVec 32 := 1#32
  let v1346 : BitVec 32 := Scalar.muli v5 c1_i32_1281
  let v1347 : BitVec 32 := Scalar.addi c0_i32_1282 v1346
  v1347.toNat
def k0_dev63 (d0 : Dev nD) : Nat :=
  let c0_i32_1316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1315 : BitVec 32 := 1#32
  let v1378 : BitVec 32 := Scalar.muli v5 c1_i32_1315
  let v1379 : BitVec 32 := Scalar.addi c0_i32_1316 v1378
  v1379.toNat
def k0_dev64 (d0 : Dev nD) : Nat :=
  let c0_i32_1322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1321 : BitVec 32 := 1#32
  let v1380 : BitVec 32 := Scalar.muli v7 c1_i32_1321
  let v1381 : BitVec 32 := Scalar.addi c0_i32_1322 v1380
  v1381.toNat
def k0_dev65 (d0 : Dev nD) : Nat :=
  let c0_i32_1356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1355 : BitVec 32 := 1#32
  let v1412 : BitVec 32 := Scalar.muli v7 c1_i32_1355
  let v1413 : BitVec 32 := Scalar.addi c0_i32_1356 v1412
  v1413.toNat
def k0_dev66 (d0 : Dev nD) : Nat :=
  let c0_i32_1362 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1361 : BitVec 32 := 1#32
  let v1414 : BitVec 32 := Scalar.muli v5 c1_i32_1361
  let v1415 : BitVec 32 := Scalar.addi c0_i32_1362 v1414
  v1415.toNat
def k0_dev67 (d0 : Dev nD) : Nat :=
  let c0_i32_1396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1395 : BitVec 32 := 1#32
  let v1446 : BitVec 32 := Scalar.muli v5 c1_i32_1395
  let v1447 : BitVec 32 := Scalar.addi c0_i32_1396 v1446
  v1447.toNat
def k0_dev68 (d0 : Dev nD) : Nat :=
  let c0_i32_1402 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1401 : BitVec 32 := 1#32
  let v1448 : BitVec 32 := Scalar.muli v7 c1_i32_1401
  let v1449 : BitVec 32 := Scalar.addi c0_i32_1402 v1448
  v1449.toNat
def k0_dev69 (d0 : Dev nD) : Nat :=
  let c0_i32_1436 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1435 : BitVec 32 := 1#32
  let v1480 : BitVec 32 := Scalar.muli v7 c1_i32_1435
  let v1481 : BitVec 32 := Scalar.addi c0_i32_1436 v1480
  v1481.toNat
def k0_dev70 (d0 : Dev nD) : Nat :=
  let c0_i32_1442 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1441 : BitVec 32 := 1#32
  let v1482 : BitVec 32 := Scalar.muli v5 c1_i32_1441
  let v1483 : BitVec 32 := Scalar.addi c0_i32_1442 v1482
  v1483.toNat
def k0_dev71 (d0 : Dev nD) : Nat :=
  let c0_i32_1476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1475 : BitVec 32 := 1#32
  let v1514 : BitVec 32 := Scalar.muli v5 c1_i32_1475
  let v1515 : BitVec 32 := Scalar.addi c0_i32_1476 v1514
  v1515.toNat
def k0_dev72 (d0 : Dev nD) : Nat :=
  let c0_i32_1482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1481 : BitVec 32 := 1#32
  let v1516 : BitVec 32 := Scalar.muli v7 c1_i32_1481
  let v1517 : BitVec 32 := Scalar.addi c0_i32_1482 v1516
  v1517.toNat
def k0_dev73 (d0 : Dev nD) : Nat :=
  let c0_i32_1516 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1515 : BitVec 32 := 1#32
  let v1548 : BitVec 32 := Scalar.muli v7 c1_i32_1515
  let v1549 : BitVec 32 := Scalar.addi c0_i32_1516 v1548
  v1549.toNat
def k0_dev74 (d0 : Dev nD) : Nat :=
  let c0_i32_1522 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1521 : BitVec 32 := 1#32
  let v1550 : BitVec 32 := Scalar.muli v5 c1_i32_1521
  let v1551 : BitVec 32 := Scalar.addi c0_i32_1522 v1550
  v1551.toNat
def k0_dev75 (d0 : Dev nD) : Nat :=
  let c0_i32_1602 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1601 : BitVec 32 := 1#32
  let v1661 : BitVec 32 := Scalar.muli v5 c1_i32_1601
  let v1662 : BitVec 32 := Scalar.addi c0_i32_1602 v1661
  v1662.toNat
def k0_dev76 (d0 : Dev nD) : Nat :=
  let c0_i32_1608 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1607 : BitVec 32 := 1#32
  let v1663 : BitVec 32 := Scalar.muli v7 c1_i32_1607
  let v1664 : BitVec 32 := Scalar.addi c0_i32_1608 v1663
  v1664.toNat
def k0_dev77 (d0 : Dev nD) : Nat :=
  let c0_i32_1642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1641 : BitVec 32 := 1#32
  let v1695 : BitVec 32 := Scalar.muli v7 c1_i32_1641
  let v1696 : BitVec 32 := Scalar.addi c0_i32_1642 v1695
  v1696.toNat
def k0_dev78 (d0 : Dev nD) : Nat :=
  let c0_i32_1648 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1647 : BitVec 32 := 1#32
  let v1697 : BitVec 32 := Scalar.muli v5 c1_i32_1647
  let v1698 : BitVec 32 := Scalar.addi c0_i32_1648 v1697
  v1698.toNat
def k0_dev79 (d0 : Dev nD) : Nat :=
  let c0_i32_1682 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1681 : BitVec 32 := 1#32
  let v1729 : BitVec 32 := Scalar.muli v5 c1_i32_1681
  let v1730 : BitVec 32 := Scalar.addi c0_i32_1682 v1729
  v1730.toNat
def k0_dev80 (d0 : Dev nD) : Nat :=
  let c0_i32_1688 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1687 : BitVec 32 := 1#32
  let v1731 : BitVec 32 := Scalar.muli v7 c1_i32_1687
  let v1732 : BitVec 32 := Scalar.addi c0_i32_1688 v1731
  v1732.toNat
def k0_dev81 (d0 : Dev nD) : Nat :=
  let c0_i32_1722 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1721 : BitVec 32 := 1#32
  let v1763 : BitVec 32 := Scalar.muli v7 c1_i32_1721
  let v1764 : BitVec 32 := Scalar.addi c0_i32_1722 v1763
  v1764.toNat
def k0_dev82 (d0 : Dev nD) : Nat :=
  let c0_i32_1728 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1727 : BitVec 32 := 1#32
  let v1765 : BitVec 32 := Scalar.muli v5 c1_i32_1727
  let v1766 : BitVec 32 := Scalar.addi c0_i32_1728 v1765
  v1766.toNat
def k0_dev83 (d0 : Dev nD) : Nat :=
  let c0_i32_1762 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1761 : BitVec 32 := 1#32
  let v1797 : BitVec 32 := Scalar.muli v5 c1_i32_1761
  let v1798 : BitVec 32 := Scalar.addi c0_i32_1762 v1797
  v1798.toNat
def k0_dev84 (d0 : Dev nD) : Nat :=
  let c0_i32_1768 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1767 : BitVec 32 := 1#32
  let v1799 : BitVec 32 := Scalar.muli v7 c1_i32_1767
  let v1800 : BitVec 32 := Scalar.addi c0_i32_1768 v1799
  v1800.toNat
def k0_dev85 (d0 : Dev nD) : Nat :=
  let c0_i32_1802 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1801 : BitVec 32 := 1#32
  let v1831 : BitVec 32 := Scalar.muli v7 c1_i32_1801
  let v1832 : BitVec 32 := Scalar.addi c0_i32_1802 v1831
  v1832.toNat
def k0_dev86 (d0 : Dev nD) : Nat :=
  let c0_i32_1808 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1807 : BitVec 32 := 1#32
  let v1833 : BitVec 32 := Scalar.muli v5 c1_i32_1807
  let v1834 : BitVec 32 := Scalar.addi c0_i32_1808 v1833
  v1834.toNat
def k0_dev87 (d0 : Dev nD) : Nat :=
  let c0_i32_1842 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1841 : BitVec 32 := 1#32
  let v1865 : BitVec 32 := Scalar.muli v5 c1_i32_1841
  let v1866 : BitVec 32 := Scalar.addi c0_i32_1842 v1865
  v1866.toNat
def k0_dev88 (d0 : Dev nD) : Nat :=
  let c0_i32_1848 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1847 : BitVec 32 := 1#32
  let v1867 : BitVec 32 := Scalar.muli v7 c1_i32_1847
  let v1868 : BitVec 32 := Scalar.addi c0_i32_1848 v1867
  v1868.toNat
def k0_dev89 (d0 : Dev nD) : Nat :=
  let c0_i32_1882 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1881 : BitVec 32 := 1#32
  let v1899 : BitVec 32 := Scalar.muli v7 c1_i32_1881
  let v1900 : BitVec 32 := Scalar.addi c0_i32_1882 v1899
  v1900.toNat
def k0_dev90 (d0 : Dev nD) : Nat :=
  let c0_i32_1888 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1887 : BitVec 32 := 1#32
  let v1901 : BitVec 32 := Scalar.muli v5 c1_i32_1887
  let v1902 : BitVec 32 := Scalar.addi c0_i32_1888 v1901
  v1902.toNat
def k0_dev91 (d0 : Dev nD) : Nat :=
  let c0_i32_1968 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_1967 : BitVec 32 := 1#32
  let v2012 : BitVec 32 := Scalar.muli v5 c1_i32_1967
  let v2013 : BitVec 32 := Scalar.addi c0_i32_1968 v2012
  v2013.toNat
def k0_dev92 (d0 : Dev nD) : Nat :=
  let c0_i32_1974 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1973 : BitVec 32 := 1#32
  let v2014 : BitVec 32 := Scalar.muli v7 c1_i32_1973
  let v2015 : BitVec 32 := Scalar.addi c0_i32_1974 v2014
  v2015.toNat
def k0_dev93 (d0 : Dev nD) : Nat :=
  let c0_i32_2008 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2007 : BitVec 32 := 1#32
  let v2046 : BitVec 32 := Scalar.muli v7 c1_i32_2007
  let v2047 : BitVec 32 := Scalar.addi c0_i32_2008 v2046
  v2047.toNat
def k0_dev94 (d0 : Dev nD) : Nat :=
  let c0_i32_2014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2013 : BitVec 32 := 1#32
  let v2048 : BitVec 32 := Scalar.muli v5 c1_i32_2013
  let v2049 : BitVec 32 := Scalar.addi c0_i32_2014 v2048
  v2049.toNat
def k0_dev95 (d0 : Dev nD) : Nat :=
  let c0_i32_2048 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2047 : BitVec 32 := 1#32
  let v2080 : BitVec 32 := Scalar.muli v5 c1_i32_2047
  let v2081 : BitVec 32 := Scalar.addi c0_i32_2048 v2080
  v2081.toNat
def k0_dev96 (d0 : Dev nD) : Nat :=
  let c0_i32_2054 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2053 : BitVec 32 := 1#32
  let v2082 : BitVec 32 := Scalar.muli v7 c1_i32_2053
  let v2083 : BitVec 32 := Scalar.addi c0_i32_2054 v2082
  v2083.toNat
def k0_dev97 (d0 : Dev nD) : Nat :=
  let c0_i32_2088 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2087 : BitVec 32 := 1#32
  let v2114 : BitVec 32 := Scalar.muli v7 c1_i32_2087
  let v2115 : BitVec 32 := Scalar.addi c0_i32_2088 v2114
  v2115.toNat
def k0_dev98 (d0 : Dev nD) : Nat :=
  let c0_i32_2094 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2093 : BitVec 32 := 1#32
  let v2116 : BitVec 32 := Scalar.muli v5 c1_i32_2093
  let v2117 : BitVec 32 := Scalar.addi c0_i32_2094 v2116
  v2117.toNat
def k0_dev99 (d0 : Dev nD) : Nat :=
  let c0_i32_2128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2127 : BitVec 32 := 1#32
  let v2148 : BitVec 32 := Scalar.muli v5 c1_i32_2127
  let v2149 : BitVec 32 := Scalar.addi c0_i32_2128 v2148
  v2149.toNat
def k0_dev100 (d0 : Dev nD) : Nat :=
  let c0_i32_2134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2133 : BitVec 32 := 1#32
  let v2150 : BitVec 32 := Scalar.muli v7 c1_i32_2133
  let v2151 : BitVec 32 := Scalar.addi c0_i32_2134 v2150
  v2151.toNat
def k0_dev101 (d0 : Dev nD) : Nat :=
  let c0_i32_2168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2167 : BitVec 32 := 1#32
  let v2182 : BitVec 32 := Scalar.muli v7 c1_i32_2167
  let v2183 : BitVec 32 := Scalar.addi c0_i32_2168 v2182
  v2183.toNat
def k0_dev102 (d0 : Dev nD) : Nat :=
  let c0_i32_2174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2173 : BitVec 32 := 1#32
  let v2184 : BitVec 32 := Scalar.muli v5 c1_i32_2173
  let v2185 : BitVec 32 := Scalar.addi c0_i32_2174 v2184
  v2185.toNat
def k0_dev103 (d0 : Dev nD) : Nat :=
  let c0_i32_2208 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2207 : BitVec 32 := 1#32
  let v2216 : BitVec 32 := Scalar.muli v5 c1_i32_2207
  let v2217 : BitVec 32 := Scalar.addi c0_i32_2208 v2216
  v2217.toNat
def k0_dev104 (d0 : Dev nD) : Nat :=
  let c0_i32_2214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2213 : BitVec 32 := 1#32
  let v2218 : BitVec 32 := Scalar.muli v7 c1_i32_2213
  let v2219 : BitVec 32 := Scalar.addi c0_i32_2214 v2218
  v2219.toNat
def k0_dev105 (d0 : Dev nD) : Nat :=
  let c0_i32_2248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2247 : BitVec 32 := 1#32
  let v2250 : BitVec 32 := Scalar.muli v7 c1_i32_2247
  let v2251 : BitVec 32 := Scalar.addi c0_i32_2248 v2250
  v2251.toNat
def k0_dev106 (d0 : Dev nD) : Nat :=
  let c0_i32_2254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2253 : BitVec 32 := 1#32
  let v2252 : BitVec 32 := Scalar.muli v5 c1_i32_2253
  let v2253 : BitVec 32 := Scalar.addi c0_i32_2254 v2252
  v2253.toNat
def k0_dev107 (d0 : Dev nD) : Nat :=
  let c0_i32_2334 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2333 : BitVec 32 := 1#32
  let v2363 : BitVec 32 := Scalar.muli v5 c1_i32_2333
  let v2364 : BitVec 32 := Scalar.addi c0_i32_2334 v2363
  v2364.toNat
def k0_dev108 (d0 : Dev nD) : Nat :=
  let c0_i32_2340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2339 : BitVec 32 := 1#32
  let v2365 : BitVec 32 := Scalar.muli v7 c1_i32_2339
  let v2366 : BitVec 32 := Scalar.addi c0_i32_2340 v2365
  v2366.toNat
def k0_dev109 (d0 : Dev nD) : Nat :=
  let c0_i32_2374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2373 : BitVec 32 := 1#32
  let v2397 : BitVec 32 := Scalar.muli v7 c1_i32_2373
  let v2398 : BitVec 32 := Scalar.addi c0_i32_2374 v2397
  v2398.toNat
def k0_dev110 (d0 : Dev nD) : Nat :=
  let c0_i32_2380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2379 : BitVec 32 := 1#32
  let v2399 : BitVec 32 := Scalar.muli v5 c1_i32_2379
  let v2400 : BitVec 32 := Scalar.addi c0_i32_2380 v2399
  v2400.toNat
def k0_dev111 (d0 : Dev nD) : Nat :=
  let c0_i32_2414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2413 : BitVec 32 := 1#32
  let v2431 : BitVec 32 := Scalar.muli v5 c1_i32_2413
  let v2432 : BitVec 32 := Scalar.addi c0_i32_2414 v2431
  v2432.toNat
def k0_dev112 (d0 : Dev nD) : Nat :=
  let c0_i32_2420 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2419 : BitVec 32 := 1#32
  let v2433 : BitVec 32 := Scalar.muli v7 c1_i32_2419
  let v2434 : BitVec 32 := Scalar.addi c0_i32_2420 v2433
  v2434.toNat
def k0_dev113 (d0 : Dev nD) : Nat :=
  let c0_i32_2454 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2453 : BitVec 32 := 1#32
  let v2465 : BitVec 32 := Scalar.muli v7 c1_i32_2453
  let v2466 : BitVec 32 := Scalar.addi c0_i32_2454 v2465
  v2466.toNat
def k0_dev114 (d0 : Dev nD) : Nat :=
  let c0_i32_2460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2459 : BitVec 32 := 1#32
  let v2467 : BitVec 32 := Scalar.muli v5 c1_i32_2459
  let v2468 : BitVec 32 := Scalar.addi c0_i32_2460 v2467
  v2468.toNat
def k0_dev115 (d0 : Dev nD) : Nat :=
  let c0_i32_2494 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2493 : BitVec 32 := 1#32
  let v2499 : BitVec 32 := Scalar.muli v5 c1_i32_2493
  let v2500 : BitVec 32 := Scalar.addi c0_i32_2494 v2499
  v2500.toNat
def k0_dev116 (d0 : Dev nD) : Nat :=
  let c0_i32_2500 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2499 : BitVec 32 := 1#32
  let v2501 : BitVec 32 := Scalar.muli v7 c1_i32_2499
  let v2502 : BitVec 32 := Scalar.addi c0_i32_2500 v2501
  v2502.toNat
def k0_dev117 (d0 : Dev nD) : Nat :=
  let c0_i32_2534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2533 : BitVec 32 := 1#32
  let v2533 : BitVec 32 := Scalar.muli v7 c1_i32_2533
  let v2534 : BitVec 32 := Scalar.addi c0_i32_2534 v2533
  v2534.toNat
def k0_dev118 (d0 : Dev nD) : Nat :=
  let c0_i32_2540 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2539 : BitVec 32 := 1#32
  let v2535 : BitVec 32 := Scalar.muli v5 c1_i32_2539
  let v2536 : BitVec 32 := Scalar.addi c0_i32_2540 v2535
  v2536.toNat
def k0_dev119 (d0 : Dev nD) : Nat :=
  let c0_i32_2574 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2573 : BitVec 32 := 1#32
  let v2567 : BitVec 32 := Scalar.muli v5 c1_i32_2573
  let v2568 : BitVec 32 := Scalar.addi c0_i32_2574 v2567
  v2568.toNat
def k0_dev120 (d0 : Dev nD) : Nat :=
  let c0_i32_2580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2579 : BitVec 32 := 1#32
  let v2569 : BitVec 32 := Scalar.muli v7 c1_i32_2579
  let v2570 : BitVec 32 := Scalar.addi c0_i32_2580 v2569
  v2570.toNat
def k0_dev121 (d0 : Dev nD) : Nat :=
  let c0_i32_2614 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2613 : BitVec 32 := 1#32
  let v2601 : BitVec 32 := Scalar.muli v7 c1_i32_2613
  let v2602 : BitVec 32 := Scalar.addi c0_i32_2614 v2601
  v2602.toNat
def k0_dev122 (d0 : Dev nD) : Nat :=
  let c0_i32_2620 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2619 : BitVec 32 := 1#32
  let v2603 : BitVec 32 := Scalar.muli v5 c1_i32_2619
  let v2604 : BitVec 32 := Scalar.addi c0_i32_2620 v2603
  v2604.toNat
def k0_dev123 (d0 : Dev nD) : Nat :=
  let c0_i32_2700 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2699 : BitVec 32 := 1#32
  let v2714 : BitVec 32 := Scalar.muli v5 c1_i32_2699
  let v2715 : BitVec 32 := Scalar.addi c0_i32_2700 v2714
  v2715.toNat
def k0_dev124 (d0 : Dev nD) : Nat :=
  let c0_i32_2706 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2705 : BitVec 32 := 1#32
  let v2716 : BitVec 32 := Scalar.muli v7 c1_i32_2705
  let v2717 : BitVec 32 := Scalar.addi c0_i32_2706 v2716
  v2717.toNat
def k0_dev125 (d0 : Dev nD) : Nat :=
  let c0_i32_2740 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2739 : BitVec 32 := 1#32
  let v2748 : BitVec 32 := Scalar.muli v7 c1_i32_2739
  let v2749 : BitVec 32 := Scalar.addi c0_i32_2740 v2748
  v2749.toNat
def k0_dev126 (d0 : Dev nD) : Nat :=
  let c0_i32_2746 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2745 : BitVec 32 := 1#32
  let v2750 : BitVec 32 := Scalar.muli v5 c1_i32_2745
  let v2751 : BitVec 32 := Scalar.addi c0_i32_2746 v2750
  v2751.toNat
def k0_dev127 (d0 : Dev nD) : Nat :=
  let c0_i32_2780 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2779 : BitVec 32 := 1#32
  let v2782 : BitVec 32 := Scalar.muli v5 c1_i32_2779
  let v2783 : BitVec 32 := Scalar.addi c0_i32_2780 v2782
  v2783.toNat
def k0_dev128 (d0 : Dev nD) : Nat :=
  let c0_i32_2786 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2785 : BitVec 32 := 1#32
  let v2784 : BitVec 32 := Scalar.muli v7 c1_i32_2785
  let v2785 : BitVec 32 := Scalar.addi c0_i32_2786 v2784
  v2785.toNat
def k0_dev129 (d0 : Dev nD) : Nat :=
  let c0_i32_2820 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2819 : BitVec 32 := 1#32
  let v2816 : BitVec 32 := Scalar.muli v7 c1_i32_2819
  let v2817 : BitVec 32 := Scalar.addi c0_i32_2820 v2816
  v2817.toNat
def k0_dev130 (d0 : Dev nD) : Nat :=
  let c0_i32_2826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2825 : BitVec 32 := 1#32
  let v2818 : BitVec 32 := Scalar.muli v5 c1_i32_2825
  let v2819 : BitVec 32 := Scalar.addi c0_i32_2826 v2818
  v2819.toNat
def k0_dev131 (d0 : Dev nD) : Nat :=
  let c0_i32_2860 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2859 : BitVec 32 := 1#32
  let v2850 : BitVec 32 := Scalar.muli v5 c1_i32_2859
  let v2851 : BitVec 32 := Scalar.addi c0_i32_2860 v2850
  v2851.toNat
def k0_dev132 (d0 : Dev nD) : Nat :=
  let c0_i32_2866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2865 : BitVec 32 := 1#32
  let v2852 : BitVec 32 := Scalar.muli v7 c1_i32_2865
  let v2853 : BitVec 32 := Scalar.addi c0_i32_2866 v2852
  v2853.toNat
def k0_dev133 (d0 : Dev nD) : Nat :=
  let c0_i32_2900 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2899 : BitVec 32 := 1#32
  let v2884 : BitVec 32 := Scalar.muli v7 c1_i32_2899
  let v2885 : BitVec 32 := Scalar.addi c0_i32_2900 v2884
  v2885.toNat
def k0_dev134 (d0 : Dev nD) : Nat :=
  let c0_i32_2906 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2905 : BitVec 32 := 1#32
  let v2886 : BitVec 32 := Scalar.muli v5 c1_i32_2905
  let v2887 : BitVec 32 := Scalar.addi c0_i32_2906 v2886
  v2887.toNat
def k0_dev135 (d0 : Dev nD) : Nat :=
  let c0_i32_2940 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2939 : BitVec 32 := 1#32
  let v2918 : BitVec 32 := Scalar.muli v5 c1_i32_2939
  let v2919 : BitVec 32 := Scalar.addi c0_i32_2940 v2918
  v2919.toNat
def k0_dev136 (d0 : Dev nD) : Nat :=
  let c0_i32_2946 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2945 : BitVec 32 := 1#32
  let v2920 : BitVec 32 := Scalar.muli v7 c1_i32_2945
  let v2921 : BitVec 32 := Scalar.addi c0_i32_2946 v2920
  v2921.toNat
def k0_dev137 (d0 : Dev nD) : Nat :=
  let c0_i32_2980 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2979 : BitVec 32 := 1#32
  let v2952 : BitVec 32 := Scalar.muli v7 c1_i32_2979
  let v2953 : BitVec 32 := Scalar.addi c0_i32_2980 v2952
  v2953.toNat
def k0_dev138 (d0 : Dev nD) : Nat :=
  let c0_i32_2986 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_2985 : BitVec 32 := 1#32
  let v2954 : BitVec 32 := Scalar.muli v5 c1_i32_2985
  let v2955 : BitVec 32 := Scalar.addi c0_i32_2986 v2954
  v2955.toNat
def k0_dev139 (d0 : Dev nD) : Nat :=
  let c0_i32_3066 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3065 : BitVec 32 := 1#32
  let v3065 : BitVec 32 := Scalar.muli v5 c1_i32_3065
  let v3066 : BitVec 32 := Scalar.addi c0_i32_3066 v3065
  v3066.toNat
def k0_dev140 (d0 : Dev nD) : Nat :=
  let c0_i32_3072 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3071 : BitVec 32 := 1#32
  let v3067 : BitVec 32 := Scalar.muli v7 c1_i32_3071
  let v3068 : BitVec 32 := Scalar.addi c0_i32_3072 v3067
  v3068.toNat
def k0_dev141 (d0 : Dev nD) : Nat :=
  let c0_i32_3106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3105 : BitVec 32 := 1#32
  let v3099 : BitVec 32 := Scalar.muli v7 c1_i32_3105
  let v3100 : BitVec 32 := Scalar.addi c0_i32_3106 v3099
  v3100.toNat
def k0_dev142 (d0 : Dev nD) : Nat :=
  let c0_i32_3112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3111 : BitVec 32 := 1#32
  let v3101 : BitVec 32 := Scalar.muli v5 c1_i32_3111
  let v3102 : BitVec 32 := Scalar.addi c0_i32_3112 v3101
  v3102.toNat
def k0_dev143 (d0 : Dev nD) : Nat :=
  let c0_i32_3146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3145 : BitVec 32 := 1#32
  let v3133 : BitVec 32 := Scalar.muli v5 c1_i32_3145
  let v3134 : BitVec 32 := Scalar.addi c0_i32_3146 v3133
  v3134.toNat
def k0_dev144 (d0 : Dev nD) : Nat :=
  let c0_i32_3152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3151 : BitVec 32 := 1#32
  let v3135 : BitVec 32 := Scalar.muli v7 c1_i32_3151
  let v3136 : BitVec 32 := Scalar.addi c0_i32_3152 v3135
  v3136.toNat
def k0_dev145 (d0 : Dev nD) : Nat :=
  let c0_i32_3186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3185 : BitVec 32 := 1#32
  let v3167 : BitVec 32 := Scalar.muli v7 c1_i32_3185
  let v3168 : BitVec 32 := Scalar.addi c0_i32_3186 v3167
  v3168.toNat
def k0_dev146 (d0 : Dev nD) : Nat :=
  let c0_i32_3192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3191 : BitVec 32 := 1#32
  let v3169 : BitVec 32 := Scalar.muli v5 c1_i32_3191
  let v3170 : BitVec 32 := Scalar.addi c0_i32_3192 v3169
  v3170.toNat
def k0_dev147 (d0 : Dev nD) : Nat :=
  let c0_i32_3226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3225 : BitVec 32 := 1#32
  let v3201 : BitVec 32 := Scalar.muli v5 c1_i32_3225
  let v3202 : BitVec 32 := Scalar.addi c0_i32_3226 v3201
  v3202.toNat
def k0_dev148 (d0 : Dev nD) : Nat :=
  let c0_i32_3232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3231 : BitVec 32 := 1#32
  let v3203 : BitVec 32 := Scalar.muli v7 c1_i32_3231
  let v3204 : BitVec 32 := Scalar.addi c0_i32_3232 v3203
  v3204.toNat
def k0_dev149 (d0 : Dev nD) : Nat :=
  let c0_i32_3266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3265 : BitVec 32 := 1#32
  let v3235 : BitVec 32 := Scalar.muli v7 c1_i32_3265
  let v3236 : BitVec 32 := Scalar.addi c0_i32_3266 v3235
  v3236.toNat
def k0_dev150 (d0 : Dev nD) : Nat :=
  let c0_i32_3272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3271 : BitVec 32 := 1#32
  let v3237 : BitVec 32 := Scalar.muli v5 c1_i32_3271
  let v3238 : BitVec 32 := Scalar.addi c0_i32_3272 v3237
  v3238.toNat
def k0_dev151 (d0 : Dev nD) : Nat :=
  let c0_i32_3306 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3305 : BitVec 32 := 1#32
  let v3269 : BitVec 32 := Scalar.muli v5 c1_i32_3305
  let v3270 : BitVec 32 := Scalar.addi c0_i32_3306 v3269
  v3270.toNat
def k0_dev152 (d0 : Dev nD) : Nat :=
  let c0_i32_3312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3311 : BitVec 32 := 1#32
  let v3271 : BitVec 32 := Scalar.muli v7 c1_i32_3311
  let v3272 : BitVec 32 := Scalar.addi c0_i32_3312 v3271
  v3272.toNat
def k0_dev153 (d0 : Dev nD) : Nat :=
  let c0_i32_3346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3345 : BitVec 32 := 1#32
  let v3303 : BitVec 32 := Scalar.muli v7 c1_i32_3345
  let v3304 : BitVec 32 := Scalar.addi c0_i32_3346 v3303
  v3304.toNat
def k0_dev154 (d0 : Dev nD) : Nat :=
  let c0_i32_3352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3351 : BitVec 32 := 1#32
  let v3305 : BitVec 32 := Scalar.muli v5 c1_i32_3351
  let v3306 : BitVec 32 := Scalar.addi c0_i32_3352 v3305
  v3306.toNat
def k0_dev155 (d0 : Dev nD) : Nat :=
  let c0_i32_3432 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3431 : BitVec 32 := 1#32
  let v3416 : BitVec 32 := Scalar.muli v5 c1_i32_3431
  let v3417 : BitVec 32 := Scalar.addi c0_i32_3432 v3416
  v3417.toNat
def k0_dev156 (d0 : Dev nD) : Nat :=
  let c0_i32_3438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3437 : BitVec 32 := 1#32
  let v3418 : BitVec 32 := Scalar.muli v7 c1_i32_3437
  let v3419 : BitVec 32 := Scalar.addi c0_i32_3438 v3418
  v3419.toNat
def k0_dev157 (d0 : Dev nD) : Nat :=
  let c0_i32_3472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3471 : BitVec 32 := 1#32
  let v3450 : BitVec 32 := Scalar.muli v7 c1_i32_3471
  let v3451 : BitVec 32 := Scalar.addi c0_i32_3472 v3450
  v3451.toNat
def k0_dev158 (d0 : Dev nD) : Nat :=
  let c0_i32_3478 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3477 : BitVec 32 := 1#32
  let v3452 : BitVec 32 := Scalar.muli v5 c1_i32_3477
  let v3453 : BitVec 32 := Scalar.addi c0_i32_3478 v3452
  v3453.toNat
def k0_dev159 (d0 : Dev nD) : Nat :=
  let c0_i32_3512 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3511 : BitVec 32 := 1#32
  let v3484 : BitVec 32 := Scalar.muli v5 c1_i32_3511
  let v3485 : BitVec 32 := Scalar.addi c0_i32_3512 v3484
  v3485.toNat
def k0_dev160 (d0 : Dev nD) : Nat :=
  let c0_i32_3518 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3517 : BitVec 32 := 1#32
  let v3486 : BitVec 32 := Scalar.muli v7 c1_i32_3517
  let v3487 : BitVec 32 := Scalar.addi c0_i32_3518 v3486
  v3487.toNat
def k0_dev161 (d0 : Dev nD) : Nat :=
  let c0_i32_3552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3551 : BitVec 32 := 1#32
  let v3518 : BitVec 32 := Scalar.muli v7 c1_i32_3551
  let v3519 : BitVec 32 := Scalar.addi c0_i32_3552 v3518
  v3519.toNat
def k0_dev162 (d0 : Dev nD) : Nat :=
  let c0_i32_3558 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3557 : BitVec 32 := 1#32
  let v3520 : BitVec 32 := Scalar.muli v5 c1_i32_3557
  let v3521 : BitVec 32 := Scalar.addi c0_i32_3558 v3520
  v3521.toNat
def k0_dev163 (d0 : Dev nD) : Nat :=
  let c0_i32_3592 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3591 : BitVec 32 := 1#32
  let v3552 : BitVec 32 := Scalar.muli v5 c1_i32_3591
  let v3553 : BitVec 32 := Scalar.addi c0_i32_3592 v3552
  v3553.toNat
def k0_dev164 (d0 : Dev nD) : Nat :=
  let c0_i32_3598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3597 : BitVec 32 := 1#32
  let v3554 : BitVec 32 := Scalar.muli v7 c1_i32_3597
  let v3555 : BitVec 32 := Scalar.addi c0_i32_3598 v3554
  v3555.toNat
def k0_dev165 (d0 : Dev nD) : Nat :=
  let c0_i32_3632 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3631 : BitVec 32 := 1#32
  let v3586 : BitVec 32 := Scalar.muli v7 c1_i32_3631
  let v3587 : BitVec 32 := Scalar.addi c0_i32_3632 v3586
  v3587.toNat
def k0_dev166 (d0 : Dev nD) : Nat :=
  let c0_i32_3638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3637 : BitVec 32 := 1#32
  let v3588 : BitVec 32 := Scalar.muli v5 c1_i32_3637
  let v3589 : BitVec 32 := Scalar.addi c0_i32_3638 v3588
  v3589.toNat
def k0_dev167 (d0 : Dev nD) : Nat :=
  let c0_i32_3672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3671 : BitVec 32 := 1#32
  let v3620 : BitVec 32 := Scalar.muli v5 c1_i32_3671
  let v3621 : BitVec 32 := Scalar.addi c0_i32_3672 v3620
  v3621.toNat
def k0_dev168 (d0 : Dev nD) : Nat :=
  let c0_i32_3678 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3677 : BitVec 32 := 1#32
  let v3622 : BitVec 32 := Scalar.muli v7 c1_i32_3677
  let v3623 : BitVec 32 := Scalar.addi c0_i32_3678 v3622
  v3623.toNat
def k0_dev169 (d0 : Dev nD) : Nat :=
  let c0_i32_3712 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3711 : BitVec 32 := 1#32
  let v3654 : BitVec 32 := Scalar.muli v7 c1_i32_3711
  let v3655 : BitVec 32 := Scalar.addi c0_i32_3712 v3654
  v3655.toNat
def k0_dev170 (d0 : Dev nD) : Nat :=
  let c0_i32_3718 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3717 : BitVec 32 := 1#32
  let v3656 : BitVec 32 := Scalar.muli v5 c1_i32_3717
  let v3657 : BitVec 32 := Scalar.addi c0_i32_3718 v3656
  v3657.toNat
def k0_dev171 (d0 : Dev nD) : Nat :=
  let c0_i32_3798 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3797 : BitVec 32 := 1#32
  let v3767 : BitVec 32 := Scalar.muli v5 c1_i32_3797
  let v3768 : BitVec 32 := Scalar.addi c0_i32_3798 v3767
  v3768.toNat
def k0_dev172 (d0 : Dev nD) : Nat :=
  let c0_i32_3804 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3803 : BitVec 32 := 1#32
  let v3769 : BitVec 32 := Scalar.muli v7 c1_i32_3803
  let v3770 : BitVec 32 := Scalar.addi c0_i32_3804 v3769
  v3770.toNat
def k0_dev173 (d0 : Dev nD) : Nat :=
  let c0_i32_3838 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3837 : BitVec 32 := 1#32
  let v3801 : BitVec 32 := Scalar.muli v7 c1_i32_3837
  let v3802 : BitVec 32 := Scalar.addi c0_i32_3838 v3801
  v3802.toNat
def k0_dev174 (d0 : Dev nD) : Nat :=
  let c0_i32_3844 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3843 : BitVec 32 := 1#32
  let v3803 : BitVec 32 := Scalar.muli v5 c1_i32_3843
  let v3804 : BitVec 32 := Scalar.addi c0_i32_3844 v3803
  v3804.toNat
def k0_dev175 (d0 : Dev nD) : Nat :=
  let c0_i32_3878 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3877 : BitVec 32 := 1#32
  let v3835 : BitVec 32 := Scalar.muli v5 c1_i32_3877
  let v3836 : BitVec 32 := Scalar.addi c0_i32_3878 v3835
  v3836.toNat
def k0_dev176 (d0 : Dev nD) : Nat :=
  let c0_i32_3884 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3883 : BitVec 32 := 1#32
  let v3837 : BitVec 32 := Scalar.muli v7 c1_i32_3883
  let v3838 : BitVec 32 := Scalar.addi c0_i32_3884 v3837
  v3838.toNat
def k0_dev177 (d0 : Dev nD) : Nat :=
  let c0_i32_3918 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3917 : BitVec 32 := 1#32
  let v3869 : BitVec 32 := Scalar.muli v7 c1_i32_3917
  let v3870 : BitVec 32 := Scalar.addi c0_i32_3918 v3869
  v3870.toNat
def k0_dev178 (d0 : Dev nD) : Nat :=
  let c0_i32_3924 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3923 : BitVec 32 := 1#32
  let v3871 : BitVec 32 := Scalar.muli v5 c1_i32_3923
  let v3872 : BitVec 32 := Scalar.addi c0_i32_3924 v3871
  v3872.toNat
def k0_dev179 (d0 : Dev nD) : Nat :=
  let c0_i32_3958 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_3957 : BitVec 32 := 1#32
  let v3903 : BitVec 32 := Scalar.muli v5 c1_i32_3957
  let v3904 : BitVec 32 := Scalar.addi c0_i32_3958 v3903
  v3904.toNat
def k0_dev180 (d0 : Dev nD) : Nat :=
  let c0_i32_3964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3963 : BitVec 32 := 1#32
  let v3905 : BitVec 32 := Scalar.muli v7 c1_i32_3963
  let v3906 : BitVec 32 := Scalar.addi c0_i32_3964 v3905
  v3906.toNat
def k0_dev181 (d0 : Dev nD) : Nat :=
  let c0_i32_3998 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3997 : BitVec 32 := 1#32
  let v3937 : BitVec 32 := Scalar.muli v7 c1_i32_3997
  let v3938 : BitVec 32 := Scalar.addi c0_i32_3998 v3937
  v3938.toNat
def k0_dev182 (d0 : Dev nD) : Nat :=
  let c0_i32_4004 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4003 : BitVec 32 := 1#32
  let v3939 : BitVec 32 := Scalar.muli v5 c1_i32_4003
  let v3940 : BitVec 32 := Scalar.addi c0_i32_4004 v3939
  v3940.toNat
def k0_dev183 (d0 : Dev nD) : Nat :=
  let c0_i32_4038 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4037 : BitVec 32 := 1#32
  let v3971 : BitVec 32 := Scalar.muli v5 c1_i32_4037
  let v3972 : BitVec 32 := Scalar.addi c0_i32_4038 v3971
  v3972.toNat
def k0_dev184 (d0 : Dev nD) : Nat :=
  let c0_i32_4044 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4043 : BitVec 32 := 1#32
  let v3973 : BitVec 32 := Scalar.muli v7 c1_i32_4043
  let v3974 : BitVec 32 := Scalar.addi c0_i32_4044 v3973
  v3974.toNat
def k0_dev185 (d0 : Dev nD) : Nat :=
  let c0_i32_4078 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4077 : BitVec 32 := 1#32
  let v4005 : BitVec 32 := Scalar.muli v7 c1_i32_4077
  let v4006 : BitVec 32 := Scalar.addi c0_i32_4078 v4005
  v4006.toNat
def k0_dev186 (d0 : Dev nD) : Nat :=
  let c0_i32_4084 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4083 : BitVec 32 := 1#32
  let v4007 : BitVec 32 := Scalar.muli v5 c1_i32_4083
  let v4008 : BitVec 32 := Scalar.addi c0_i32_4084 v4007
  v4008.toNat
def k0_dev187 (d0 : Dev nD) : Nat :=
  let c0_i32_4164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4163 : BitVec 32 := 1#32
  let v4118 : BitVec 32 := Scalar.muli v5 c1_i32_4163
  let v4119 : BitVec 32 := Scalar.addi c0_i32_4164 v4118
  v4119.toNat
def k0_dev188 (d0 : Dev nD) : Nat :=
  let c0_i32_4170 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4169 : BitVec 32 := 1#32
  let v4120 : BitVec 32 := Scalar.muli v7 c1_i32_4169
  let v4121 : BitVec 32 := Scalar.addi c0_i32_4170 v4120
  v4121.toNat
def k0_dev189 (d0 : Dev nD) : Nat :=
  let c0_i32_4204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4203 : BitVec 32 := 1#32
  let v4152 : BitVec 32 := Scalar.muli v7 c1_i32_4203
  let v4153 : BitVec 32 := Scalar.addi c0_i32_4204 v4152
  v4153.toNat
def k0_dev190 (d0 : Dev nD) : Nat :=
  let c0_i32_4210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4209 : BitVec 32 := 1#32
  let v4154 : BitVec 32 := Scalar.muli v5 c1_i32_4209
  let v4155 : BitVec 32 := Scalar.addi c0_i32_4210 v4154
  v4155.toNat
def k0_dev191 (d0 : Dev nD) : Nat :=
  let c0_i32_4244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4243 : BitVec 32 := 1#32
  let v4186 : BitVec 32 := Scalar.muli v5 c1_i32_4243
  let v4187 : BitVec 32 := Scalar.addi c0_i32_4244 v4186
  v4187.toNat
def k0_dev192 (d0 : Dev nD) : Nat :=
  let c0_i32_4250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4249 : BitVec 32 := 1#32
  let v4188 : BitVec 32 := Scalar.muli v7 c1_i32_4249
  let v4189 : BitVec 32 := Scalar.addi c0_i32_4250 v4188
  v4189.toNat
def k0_dev193 (d0 : Dev nD) : Nat :=
  let c0_i32_4284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4283 : BitVec 32 := 1#32
  let v4220 : BitVec 32 := Scalar.muli v7 c1_i32_4283
  let v4221 : BitVec 32 := Scalar.addi c0_i32_4284 v4220
  v4221.toNat
def k0_dev194 (d0 : Dev nD) : Nat :=
  let c0_i32_4290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4289 : BitVec 32 := 1#32
  let v4222 : BitVec 32 := Scalar.muli v5 c1_i32_4289
  let v4223 : BitVec 32 := Scalar.addi c0_i32_4290 v4222
  v4223.toNat
def k0_dev195 (d0 : Dev nD) : Nat :=
  let c0_i32_4324 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4323 : BitVec 32 := 1#32
  let v4254 : BitVec 32 := Scalar.muli v5 c1_i32_4323
  let v4255 : BitVec 32 := Scalar.addi c0_i32_4324 v4254
  v4255.toNat
def k0_dev196 (d0 : Dev nD) : Nat :=
  let c0_i32_4330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4329 : BitVec 32 := 1#32
  let v4256 : BitVec 32 := Scalar.muli v7 c1_i32_4329
  let v4257 : BitVec 32 := Scalar.addi c0_i32_4330 v4256
  v4257.toNat
def k0_dev197 (d0 : Dev nD) : Nat :=
  let c0_i32_4364 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4363 : BitVec 32 := 1#32
  let v4288 : BitVec 32 := Scalar.muli v7 c1_i32_4363
  let v4289 : BitVec 32 := Scalar.addi c0_i32_4364 v4288
  v4289.toNat
def k0_dev198 (d0 : Dev nD) : Nat :=
  let c0_i32_4370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4369 : BitVec 32 := 1#32
  let v4290 : BitVec 32 := Scalar.muli v5 c1_i32_4369
  let v4291 : BitVec 32 := Scalar.addi c0_i32_4370 v4290
  v4291.toNat
def k0_dev199 (d0 : Dev nD) : Nat :=
  let c0_i32_4404 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4403 : BitVec 32 := 1#32
  let v4322 : BitVec 32 := Scalar.muli v5 c1_i32_4403
  let v4323 : BitVec 32 := Scalar.addi c0_i32_4404 v4322
  v4323.toNat
def k0_dev200 (d0 : Dev nD) : Nat :=
  let c0_i32_4410 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4409 : BitVec 32 := 1#32
  let v4324 : BitVec 32 := Scalar.muli v7 c1_i32_4409
  let v4325 : BitVec 32 := Scalar.addi c0_i32_4410 v4324
  v4325.toNat
def k0_dev201 (d0 : Dev nD) : Nat :=
  let c0_i32_4444 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4443 : BitVec 32 := 1#32
  let v4356 : BitVec 32 := Scalar.muli v7 c1_i32_4443
  let v4357 : BitVec 32 := Scalar.addi c0_i32_4444 v4356
  v4357.toNat
def k0_dev202 (d0 : Dev nD) : Nat :=
  let c0_i32_4450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4449 : BitVec 32 := 1#32
  let v4358 : BitVec 32 := Scalar.muli v5 c1_i32_4449
  let v4359 : BitVec 32 := Scalar.addi c0_i32_4450 v4358
  v4359.toNat
def k0_dev203 (d0 : Dev nD) : Nat :=
  let c0_i32_4530 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4529 : BitVec 32 := 1#32
  let v4469 : BitVec 32 := Scalar.muli v5 c1_i32_4529
  let v4470 : BitVec 32 := Scalar.addi c0_i32_4530 v4469
  v4470.toNat
def k0_dev204 (d0 : Dev nD) : Nat :=
  let c0_i32_4536 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4535 : BitVec 32 := 1#32
  let v4471 : BitVec 32 := Scalar.muli v7 c1_i32_4535
  let v4472 : BitVec 32 := Scalar.addi c0_i32_4536 v4471
  v4472.toNat
def k0_dev205 (d0 : Dev nD) : Nat :=
  let c0_i32_4570 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4569 : BitVec 32 := 1#32
  let v4503 : BitVec 32 := Scalar.muli v7 c1_i32_4569
  let v4504 : BitVec 32 := Scalar.addi c0_i32_4570 v4503
  v4504.toNat
def k0_dev206 (d0 : Dev nD) : Nat :=
  let c0_i32_4576 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4575 : BitVec 32 := 1#32
  let v4505 : BitVec 32 := Scalar.muli v5 c1_i32_4575
  let v4506 : BitVec 32 := Scalar.addi c0_i32_4576 v4505
  v4506.toNat
def k0_dev207 (d0 : Dev nD) : Nat :=
  let c0_i32_4610 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4609 : BitVec 32 := 1#32
  let v4537 : BitVec 32 := Scalar.muli v5 c1_i32_4609
  let v4538 : BitVec 32 := Scalar.addi c0_i32_4610 v4537
  v4538.toNat
def k0_dev208 (d0 : Dev nD) : Nat :=
  let c0_i32_4616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4615 : BitVec 32 := 1#32
  let v4539 : BitVec 32 := Scalar.muli v7 c1_i32_4615
  let v4540 : BitVec 32 := Scalar.addi c0_i32_4616 v4539
  v4540.toNat
def k0_dev209 (d0 : Dev nD) : Nat :=
  let c0_i32_4650 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4649 : BitVec 32 := 1#32
  let v4571 : BitVec 32 := Scalar.muli v7 c1_i32_4649
  let v4572 : BitVec 32 := Scalar.addi c0_i32_4650 v4571
  v4572.toNat
def k0_dev210 (d0 : Dev nD) : Nat :=
  let c0_i32_4656 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4655 : BitVec 32 := 1#32
  let v4573 : BitVec 32 := Scalar.muli v5 c1_i32_4655
  let v4574 : BitVec 32 := Scalar.addi c0_i32_4656 v4573
  v4574.toNat
def k0_dev211 (d0 : Dev nD) : Nat :=
  let c0_i32_4690 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4689 : BitVec 32 := 1#32
  let v4605 : BitVec 32 := Scalar.muli v5 c1_i32_4689
  let v4606 : BitVec 32 := Scalar.addi c0_i32_4690 v4605
  v4606.toNat
def k0_dev212 (d0 : Dev nD) : Nat :=
  let c0_i32_4696 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4695 : BitVec 32 := 1#32
  let v4607 : BitVec 32 := Scalar.muli v7 c1_i32_4695
  let v4608 : BitVec 32 := Scalar.addi c0_i32_4696 v4607
  v4608.toNat
def k0_dev213 (d0 : Dev nD) : Nat :=
  let c0_i32_4730 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4729 : BitVec 32 := 1#32
  let v4639 : BitVec 32 := Scalar.muli v7 c1_i32_4729
  let v4640 : BitVec 32 := Scalar.addi c0_i32_4730 v4639
  v4640.toNat
def k0_dev214 (d0 : Dev nD) : Nat :=
  let c0_i32_4736 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4735 : BitVec 32 := 1#32
  let v4641 : BitVec 32 := Scalar.muli v5 c1_i32_4735
  let v4642 : BitVec 32 := Scalar.addi c0_i32_4736 v4641
  v4642.toNat
def k0_dev215 (d0 : Dev nD) : Nat :=
  let c0_i32_4770 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4769 : BitVec 32 := 1#32
  let v4673 : BitVec 32 := Scalar.muli v5 c1_i32_4769
  let v4674 : BitVec 32 := Scalar.addi c0_i32_4770 v4673
  v4674.toNat
def k0_dev216 (d0 : Dev nD) : Nat :=
  let c0_i32_4776 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4775 : BitVec 32 := 1#32
  let v4675 : BitVec 32 := Scalar.muli v7 c1_i32_4775
  let v4676 : BitVec 32 := Scalar.addi c0_i32_4776 v4675
  v4676.toNat
def k0_dev217 (d0 : Dev nD) : Nat :=
  let c0_i32_4810 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4809 : BitVec 32 := 1#32
  let v4707 : BitVec 32 := Scalar.muli v7 c1_i32_4809
  let v4708 : BitVec 32 := Scalar.addi c0_i32_4810 v4707
  v4708.toNat
def k0_dev218 (d0 : Dev nD) : Nat :=
  let c0_i32_4816 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4815 : BitVec 32 := 1#32
  let v4709 : BitVec 32 := Scalar.muli v5 c1_i32_4815
  let v4710 : BitVec 32 := Scalar.addi c0_i32_4816 v4709
  v4710.toNat
def k0_dev219 (d0 : Dev nD) : Nat :=
  let c0_i32_4899 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4898 : BitVec 32 := 1#32
  let v4820 : BitVec 32 := Scalar.muli v7 c1_i32_4898
  let v4821 : BitVec 32 := Scalar.addi c0_i32_4899 v4820
  v4821.toNat
def k0_dev220 (d0 : Dev nD) : Nat :=
  let c0_i32_4936 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_4935 : BitVec 32 := 1#32
  let v4852 : BitVec 32 := Scalar.muli v5 c1_i32_4935
  let v4853 : BitVec 32 := Scalar.addi c0_i32_4936 v4852
  v4853.toNat
def k0_dev221 (d0 : Dev nD) : Nat :=
  let c0_i32_4973 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4972 : BitVec 32 := 1#32
  let v4884 : BitVec 32 := Scalar.muli v7 c1_i32_4972
  let v4885 : BitVec 32 := Scalar.addi c0_i32_4973 v4884
  v4885.toNat
def k0_dev222 (d0 : Dev nD) : Nat :=
  let c0_i32_5010 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5009 : BitVec 32 := 1#32
  let v4916 : BitVec 32 := Scalar.muli v5 c1_i32_5009
  let v4917 : BitVec 32 := Scalar.addi c0_i32_5010 v4916
  v4917.toNat
def k0_dev223 (d0 : Dev nD) : Nat :=
  let c0_i32_5047 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5046 : BitVec 32 := 1#32
  let v4948 : BitVec 32 := Scalar.muli v7 c1_i32_5046
  let v4949 : BitVec 32 := Scalar.addi c0_i32_5047 v4948
  v4949.toNat
def k0_dev224 (d0 : Dev nD) : Nat :=
  let c0_i32_5084 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5083 : BitVec 32 := 1#32
  let v4980 : BitVec 32 := Scalar.muli v5 c1_i32_5083
  let v4981 : BitVec 32 := Scalar.addi c0_i32_5084 v4980
  v4981.toNat
def k0_dev225 (d0 : Dev nD) : Nat :=
  let c0_i32_5121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_5120 : BitVec 32 := 1#32
  let v5012 : BitVec 32 := Scalar.muli v7 c1_i32_5120
  let v5013 : BitVec 32 := Scalar.addi c0_i32_5121 v5012
  v5013.toNat
def k0_dev226 (d0 : Dev nD) : Nat :=
  let c0_i32_5158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let v5 : BitVec 32 := Scalar.remsi v4 c16_i32_2
  let c1_i32_5157 : BitVec 32 := 1#32
  let v5044 : BitVec 32 := Scalar.muli v5 c1_i32_5157
  let v5045 : BitVec 32 := Scalar.addi c0_i32_5158 v5044
  v5045.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_5165 : BitVec 32 := 256#32
  let v5057 : BitVec 32 := Scalar.muli v2 c256_i32_5165
  let v5058 : Index := Scalar.indexCast v5057
  let c0_5166 : Index := 0#32
  ![v5058.toNat, 0]
abbrev stage0_0 : Fin 1 → Memref sig .tc .vmem S4096x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e4m3⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e4m3⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Body.lean ====
/-
  The kernel's text, folded. Eight rings run side by side, one per block of 1024 output columns, each in fifteen steps:
  here one ring's step is written ONCE, over the ring `q` and the step `s`, the kernel is their sequence, and the printed
  body is that sequence (`body_eq`). Everything proved of the kernel afterwards is proved of one ring's step.
-/
module

public import proofs.«01_k».proof.Proof.Gen.KernelIdeal
public import proofs.«01_k».proof.Proof.Gen.KernelIdeal.Points
public import Idealize.ShloMosaic.Lib.Pipeline
public import Idealize.ShloMosaic.Lib.Pipeline.Regions

@[expose] public section

noncomputable section

namespace Cert.Ring8

open Cert.KernelIdeal Cert.KernelIdeal.Gen
open Idealize.ShloMosaic Idealize.ShloMosaic.TcCoe Idealize.SL.Sem

variable {F : FTy → Type} [FloatOps F]

/-! ## The buffers and semaphores of a ring -/

/-- Ring `q` sends from this scratch buffer (two slots), -/
def sref : Fin 8 → Ref sig .tc
  | 0 => cc0_scratch0 | 1 => cc0_scratch1 | 2 => cc0_scratch2 | 3 => cc0_scratch3
  | 4 => cc0_scratch4 | 5 => cc0_scratch5 | 6 => cc0_scratch6 | 7 => cc0_scratch7

/-- and receives into this one. -/
def rref : Fin 8 → Ref sig .tc
  | 0 => cc0_scratch8 | 1 => cc0_scratch9 | 2 => cc0_scratch10 | 3 => cc0_scratch11
  | 4 => cc0_scratch12 | 5 => cc0_scratch13 | 6 => cc0_scratch14 | 7 => cc0_scratch15

/-- The send buffer as a memory reference, -/
def sbuf : Fin 8 → Memref sig .tc .vmem S2x256x1024 .bf16
  | 0 => Memref.whole cc0_scratch0 | 1 => Memref.whole cc0_scratch1 | 2 => Memref.whole cc0_scratch2 | 3 => Memref.whole cc0_scratch3
  | 4 => Memref.whole cc0_scratch4 | 5 => Memref.whole cc0_scratch5 | 6 => Memref.whole cc0_scratch6 | 7 => Memref.whole cc0_scratch7

/-- and the receive buffer. -/
def rbuf : Fin 8 → Memref sig .tc .vmem S2x256x1024 .bf16
  | 0 => Memref.whole cc0_scratch8 | 1 => Memref.whole cc0_scratch9 | 2 => Memref.whole cc0_scratch10 | 3 => Memref.whole cc0_scratch11
  | 4 => Memref.whole cc0_scratch12 | 5 => Memref.whole cc0_scratch13 | 6 => Memref.whole cc0_scratch14 | 7 => Memref.whole cc0_scratch15

theorem sbuf_whole (q : Fin 8) : (sbuf q).IsWhole := by
  fin_cases q <;> exact Memref.isWhole_whole _

theorem rbuf_whole (q : Fin 8) : (rbuf q).IsWhole := by
  fin_cases q <;> exact Memref.isWhole_whole _

/-- The DMA semaphores of ring `q`'s sends, one per slot, -/
def ssems : Fin 8 → DmaSems sig S2
  | 0 => cc0_scratch16 | 1 => cc0_scratch17 | 2 => cc0_scratch18 | 3 => cc0_scratch19
  | 4 => cc0_scratch20 | 5 => cc0_scratch21 | 6 => cc0_scratch22 | 7 => cc0_scratch23

/-- of its receives, -/
def rsems : Fin 8 → DmaSems sig S2
  | 0 => cc0_scratch24 | 1 => cc0_scratch25 | 2 => cc0_scratch26 | 3 => cc0_scratch27
  | 4 => cc0_scratch28 | 5 => cc0_scratch29 | 6 => cc0_scratch30 | 7 => cc0_scratch31

/-- and its credit semaphore. -/
def csem : Fin 8 → Sem sig
  | 0 => cc0_scratch32.sem | 1 => cc0_scratch33.sem | 2 => cc0_scratch34.sem | 3 => cc0_scratch35.sem
  | 4 => cc0_scratch36.sem | 5 => cc0_scratch37.sem | 6 => cc0_scratch38.sem | 7 => cc0_scratch39.sem

/-! ## Slots -/

theorem slot_inb (b : Fin 2) : ∀ a, (![b.val, 0, 0] : Fin 3 → Nat) a + S1x256x1024.size a ≤ S2x256x1024.size a := by
  fin_cases b
  · exact inb_S2x256x1024_S1x256x1024_0_0_0
  · exact inb_S2x256x1024_S1x256x1024_1_0_0

/-- Slot `b`'s rectangle in a buffer of two slots. -/
abbrev slotR (b : Fin 2) : Rect S2x256x1024 := Rect.unit (s := S2x256x1024) ![b.val, 0, 0] S1x256x1024.size (slot_inb b)

theorem slot_packed (b : Fin 2) : (slotR b).PackedRows (EltTy.packing .bf16) := by
  fin_cases b
  · exact packedbf16_S2x256x1024_S1x256x1024_0_0_0
  · exact packedbf16_S2x256x1024_S1x256x1024_1_0_0

theorem slot_words (b : Fin 2) : (slotR b).WholeWords (EltTy.packing .bf16) := by
  fin_cases b
  · exact wordsbf16_S2x256x1024_S1x256x1024_0_0_0
  · exact wordsbf16_S2x256x1024_S1x256x1024_1_0_0

/-- Slot `b` of a buffer, as the transfers name it. -/
abbrev slotM (m : Memref sig .tc .vmem S2x256x1024 .bf16) (b : Fin 2) : Memref sig .tc .vmem S256x1024 .bf16 :=
  (m.slice (slotR b) (fun _ => rfl)).squeeze S256x1024 squeezes_S1x256x1024_S256x1024

theorem sem_inb (b : Fin 2) : ∀ a, (![b.val] : Fin 1 → Nat) a + S1.size a ≤ S2.size a := by
  fin_cases b
  · exact inb_S2_S1_0
  · exact inb_S2_S1_1

/-- Semaphore `b` of a pair. -/
abbrev semAt (m : DmaSems sig S2) (b : Fin 2) : DmaSem sig :=
  ((m.slice (Rect.unit (s := S2) ![b.val] S1.size (sem_inb b))).squeeze S_ squeezes_S1_S_).sem

/-- The slot of step `s`: its parity. -/
abbrev par (s : ℕ) : Fin 2 := ⟨s % 2, Nat.mod_lt _ (by decide)⟩

/-! ## Directions -/

/-- The device to the left, -/
abbrev left (d : Dev nD) : Dev nD := ⟨k0_dev1 d, k0_dev1_lt d⟩
/-- and to the right. -/
abbrev right (d : Dev nD) : Dev nD := ⟨k0_dev2 d, k0_dev2_lt d⟩

/-- Where ring `q` sends: the even rings to the right, the odd ones to the left; -/
def fwd (q : Fin 8) (d : Dev nD) : Dev nD := if q.val % 2 = 0 then right d else left d
/-- and where it receives from. -/
def bwd (q : Fin 8) (d : Dev nD) : Dev nD := if q.val % 2 = 0 then left d else right d

/-- The first row of the chunk ring `q` works on at step `s`, as the offsets of a load, -/
def xoff (q : Fin 8) (d : Dev nD) (s : ℕ) : Fin 2 → Nat :=
  if q.val % 2 = 0 then k0_off1 d (BitVec.ofNat 32 s) else k0_off2 d (BitVec.ofNat 32 s)

theorem xoff_inb (q : Fin 8) (d : Dev nD) (s : Fin 15) : ∀ a, xoff q d s a + S256x256.size a ≤ S4096x256.size a := by
  unfold xoff; split
  · exact k0_off1_inb d s
  · exact k0_off2_inb d s

/-- The first output column of ring `q`. -/
def col (q : Fin 8) : ℕ := if q.val % 2 = 0 then (q.val / 2) * 1024 else 4096 + (q.val / 2) * 1024

theorem col_inb (q : Fin 8) : ∀ a, (![0, col q] : Fin 2 → Nat) a + S256x1024.size a ≤ S256x8192.size a := by
  revert q; decide

/-! ## The values -/

/-- A chunk of `x` times a block of `w`, both widened first, in single precision. -/
abbrev dotV (x : Vec F S256x256 .fp8e4m3) (w : Vec F S256x1024 .fp8e4m3) : FVec F S256x1024 .f32 :=
  matmul dot_S256x256_S256x1024_S256x1024_1_0_0_1_n_n none
    (extf .bf16 (shapeCast S256x256 x shapeCasts_S256x256_S256x256 : FVec F S256x256 .fp8e4m3) bitsLt_fp8e4m3_bf16)
    (extf .bf16 (shapeCast S256x1024 w shapeCasts_S256x1024_S256x1024 : FVec F S256x1024 .fp8e4m3) bitsLt_fp8e4m3_bf16)
    (constant S256x1024 .f32 0x00000000#32)

/-- A partial product plus what has arrived. -/
abbrev accV (p : FVec F S256x1024 .f32) (v : Vec F S1x256x1024 .bf16) : FVec F S256x1024 .f32 :=
  addf p (extf .f32 (shapeCast S256x1024 v shapeCasts_S1x256x1024_S256x1024 : FVec F S256x1024 .bf16) bitsLt_bf16_f32)

/-- What is stored in a send slot. -/
abbrev packV (p : FVec F S256x1024 .f32) : FVec F S1x256x1024 .bf16 :=
  shapeCast S1x256x1024 (truncf .bf16 p bitsLt_bf16_f32 : FVec F S256x1024 .bf16) shapeCasts_S256x1024_S1x256x1024

/-- The last step's value: the sum scaled, times the logistic function of its clipped self. -/
abbrev outV (sc : F .f32) (p : FVec F S256x1024 .f32) : FVec F S256x1024 .f32 :=
  mulf (mulf p (broadcast S256x1024 sc))
    (divf (broadcast S256x1024 (Scalar.ofBits .f32 0x3F800000#32))
      (addf (broadcast S256x1024 (Scalar.ofBits .f32 0x3F800000#32))
        (exp (subf (broadcast S256x1024 (Scalar.ofBits .f32 0x00000000#32))
          (minimumf (broadcast S256x1024 (Scalar.ofBits .f32 0x42700000#32))
            (maximumf (broadcast S256x1024 (Scalar.ofBits .f32 0xC2700000#32)) (mulf p (broadcast S256x1024 sc))))))))

/-! ## The program -/

/-- A kernel program over values `F`. -/
abbrev KP (F : FTy → Type) [FloatOps F] : Type → Type 1 := Prog (TpuEff nD τ sig (Elt F) Λ₀ .tc)

/-- One action per ring, in order. -/
abbrev rings {E : Type → Type} (f : Fin 8 → Prog E PUnit) : Prog E PUnit := do
  f 0; f 1; f 2; f 3; f 4; f 5; f 6; f 7

/-- The product of a chunk of `x` (at `off`) with ring `q`'s block of `w`. -/
abbrev dotP (a0 : Memref sig .tc .vmem S4096x256 .fp8e4m3) (a1 : Memref sig .tc .vmem S256x8192 .fp8e4m3) (q : Fin 8)
    (off : Fin 2 → Nat) (h : ∀ a, off a + S256x256.size a ≤ S4096x256.size a) : KP F (FVec F S256x1024 .f32) := do
  let x : Vec F S256x256 .fp8e4m3 ← Prog.lift (.load a0 (Rect.unit (s := S4096x256) off S256x256.size h).toLoadRect (View.loadsAt_vmem h_S256x256))
  let w : Vec F S256x1024 .fp8e4m3 ← Prog.lift (.load a1 (Rect.unit (s := S256x8192) ![0, col q] S256x1024.size (col_inb q)).toLoadRect (View.loadsAt_vmem h_S256x1024))
  pure (dotV x w)

/-- Wait for the transfer landing in receive slot `b`, -/
abbrev waitRecv (q : Fin 8) (b : Fin 2) : KP F PUnit :=
  Prog.lift (.waitDma2 (semAt (rsems q) b) (slotM (sbuf q) b) (slotM (rbuf q) b)
    (((sbuf_whole q).wordExact_slice rfl _ (slot_words b)).reshape _ _) (((rbuf_whole q).wordExact_slice rfl _ (slot_words b)).reshape _ _))

/-- and for the one reading out of send slot `b`. -/
abbrev waitSend (q : Fin 8) (b : Fin 2) : KP F PUnit :=
  Prog.lift (.waitDma2 (semAt (ssems q) b) (slotM (rbuf q) b) (slotM (sbuf q) b)
    (((rbuf_whole q).wordExact_slice rfl _ (slot_words b)).reshape _ _) (((sbuf_whole q).wordExact_slice rfl _ (slot_words b)).reshape _ _))

/-- Load slot `b` of a buffer. -/
abbrev loadSlot (m : Memref sig .tc .vmem S2x256x1024 .bf16) (b : Fin 2) : KP F (Vec F S1x256x1024 .bf16) :=
  Prog.lift (.load m (slotR b).toLoadRect (View.loadsAt_vmem h_S1x256x1024))

/-- Write `v` into send slot `b`, -/
abbrev storeSlot (q : Fin 8) (b : Fin 2) (v : FVec F S1x256x1024 .bf16) : KP F PUnit :=
  Prog.lift (.store (sbuf q) (slotR b) v Finset.univ
    (View.stores_vmem h_S1x256x1024 ((sbuf_whole q).storeExact_slice rfl _ (slot_packed b)) (fun _ => rfl)) (.inl rfl))

/-- and start its transfer into the next device's receive slot `b`. -/
abbrev sendSlot (q : Fin 8) (d : Dev nD) (b : Fin 2) : KP F PUnit :=
  Prog.lift (.enqueueDma (slotM (sbuf q) b)
    (.remote (Dev.tc (fwd q d)) (slotM (rbuf q) b) (.dma (semAt (ssems q) b))) (.dma (semAt (rsems q) b))
    (((sbuf_whole q).wordExact_slice rfl _ (slot_words b)).reshape _ _) (((rbuf_whole q).wordExact_slice rfl _ (slot_words b)).reshape _ _)
    ⟨⟨rfl, Or.inl rfl⟩, trivial⟩)

/-- What a step gathers: at the first the product itself, later the product plus the arrived slot. -/
abbrev gatherP (q : Fin 8) (s : ℕ) (p : FVec F S256x1024 .f32) : KP F (FVec F S256x1024 .f32) :=
  if s = 0 then pure p else do
    waitRecv q (par (s - 1))
    let v ← loadSlot (rbuf q) (par (s - 1))
    pure (accV p v)

/-- From the third step on: a credit from the next device, and the send slot's last transfer read out. -/
abbrev freeP (q : Fin 8) (s : ℕ) : KP F PUnit :=
  if 2 ≤ s then do
    semWaitWord (csem q) 1#32
    waitSend q (par s)
  else pure ⟨⟩

/-- In the middle steps: a credit to the previous device, its receive slot being read. -/
abbrev creditP (q : Fin 8) (d : Dev nD) (s : ℕ) : KP F PUnit :=
  if 1 ≤ s ∧ s ≤ 13 then semSignalWord (bwd q d) (csem q) 1#32 else pure ⟨⟩

/-- Step `s` of ring `q` on device `d`, from the product `p`. -/
abbrev stepP (q : Fin 8) (d : Dev nD) (s : ℕ) (p : FVec F S256x1024 .f32) : KP F PUnit := do
  let t ← gatherP q s p
  freeP q s
  let _ ← loadSlot (sbuf q) (par s)
  storeSlot q (par s) (packV t)
  creditP q d s
  sendSlot q d (par s)

/-- The first step of every ring, each computing its product first; -/
abbrev first (a0 : Memref sig .tc .vmem S4096x256 .fp8e4m3) (a1 : Memref sig .tc .vmem S256x8192 .fp8e4m3) (d : Dev nD) : KP F PUnit :=
  rings fun q => do
    let p ← dotP a0 a1 q (xoff q d 0) (xoff_inb q d 0)
    stepP q d 0 p

/-- eight products, then one action per ring on its product. -/
abbrev eight (f : Fin 8 → KP F (FVec F S256x1024 .f32)) (g : Fin 8 → FVec F S256x1024 .f32 → KP F PUnit) : KP F PUnit := do
  let p0 ← f 0; let p1 ← f 1; let p2 ← f 2; let p3 ← f 3; let p4 ← f 4; let p5 ← f 5; let p6 ← f 6; let p7 ← f 7
  g 0 p0; g 1 p1; g 2 p2; g 3 p3; g 4 p4; g 5 p5; g 6 p6; g 7 p7

/-- A later step of every ring. -/
abbrev later (a0 : Memref sig .tc .vmem S4096x256 .fp8e4m3) (a1 : Memref sig .tc .vmem S256x8192 .fp8e4m3) (d : Dev nD) (s : Fin 15) : KP F PUnit :=
  eight (fun q => dotP a0 a1 q (xoff q d s) (xoff_inb q d s)) (fun q p => stepP q d s p)

/-- The last step of ring `q`: the last arrival, the scaling and the activation, the store. -/
abbrev lastP (a4 : Memref sig .tc .vmem S256x8192 .f32) (sc : F .f32) (q : Fin 8) (p : FVec F S256x1024 .f32) : KP F PUnit := do
  waitRecv q 0
  let v ← loadSlot (rbuf q) 0
  let _ ← Prog.lift (.load a4 (Rect.unit (s := S256x8192) ![0, col q] S256x1024.size (col_inb q)).toLoadRect (View.loadsAt_vmem h_S256x1024))
  Prog.lift (.store a4 (Rect.unit (s := S256x8192) ![0, col q] S256x1024.size (col_inb q)) (outV sc (accV p v)) Finset.univ (View.stores_vmem_bits_univ h_S256x1024 rfl) (.inl rfl))

/-- Both send slots read out. -/
abbrev drainP (q : Fin 8) : KP F PUnit := do
  waitSend q 1
  waitSend q 0

/-- The barrier with both neighbours. -/
abbrev barrierP (d : Dev nD) : KP F PUnit := do
  semSignalWord (left d) (SemArray.scalar (sig.barrier 0 rfl) : Sems sig S_).sem 1#32
  semSignalWord (right d) (SemArray.scalar (sig.barrier 0 rfl) : Sems sig S_).sem 1#32
  semWaitWord (SemArray.scalar (sig.barrier 0 rfl) : Sems sig S_).sem 2#32

/-- The steps from the second to the fifteenth. -/
abbrev laters (a0 : Memref sig .tc .vmem S4096x256 .fp8e4m3) (a1 : Memref sig .tc .vmem S256x8192 .fp8e4m3) (d : Dev nD) : KP F PUnit := do
  later a0 a1 d 1; later a0 a1 d 2; later a0 a1 d 3; later a0 a1 d 4; later a0 a1 d 5; later a0 a1 d 6; later a0 a1 d 7
  later a0 a1 d 8; later a0 a1 d 9; later a0 a1 d 10; later a0 a1 d 11; later a0 a1 d 12; later a0 a1 d 13; later a0 a1 d 14

/-- The whole kernel. -/
abbrev kernelP (a0 : Memref sig .tc .vmem S4096x256 .fp8e4m3) (a1 : Memref sig .tc .vmem S256x8192 .fp8e4m3)
    (a2 a3 : Memref sig .tc .smem S1 .f32) (a4 : Memref sig .tc .vmem S256x8192 .f32) : KP F PUnit := do
  let d : Dev nD ← Prog.lift .deviceId
  barrierP d
  first a0 a1 d
  laters a0 a1 d
  let u : Elt F .f32 ← smemLoad a2 (Rect.unit (s := S1) ![0] S1.size inb_S1_S1_0) numel1_S1 rfl
  let v : Elt F .f32 ← smemLoad a3 (Rect.unit (s := S1) ![0] S1.size inb_S1_S1_0) numel1_S1 rfl
  eight (fun q => dotP a0 a1 q (k0_off3 d) (k0_off3_inb d)) (fun q p => lastP a4 (Scalar.mulf u v) q p)
  rings fun q => drainP q

/-- The printed body, at the one grid point, is this program. -/
theorem body_eq (t : Fin cfg0.N) : bodyAt0 (F := F) t
    = kernelP ((cfg0.win 0).stage (cfg0.slots t 0)) ((cfg0.win 1).stage (cfg0.slots t 1)) ((cfg0.win 2).stage (cfg0.slots t 2))
        ((cfg0.win 3).stage (cfg0.slots t 3)) ((cfg0.win 4).stage (cfg0.slots t 4)) := by
  chain_rfl

end Cert.Ring8

end
-- ==== Proof.Common.lean ====
/-
  What the proof of the eight rings speaks of: the resources, the cells and what they are for, the values that travel,
  and the schedule by which the cells are paid and waited for.
-/
module

public import proofs.«01_k».proof.Proof.Body
public import proofs.«01_k».proof.Proof.Gen.KernelIdeal.Launch
public import Idealize.ShloMosaic.Lib.Rounds
public import Idealize.ShloMosaic.Lib.Rounds.Family
public import Idealize.ShloMosaic.Lib.Pipeline.Launch
public import Idealize.ShloMosaic.Lib.Pipeline.Regions
public import Idealize.ShloMosaic.Lib.Exec.Geometry
public import Idealize.ShloMosaic.Lib.ViewIndex
public import Mathlib.Algebra.BigOperators.Intervals

@[expose] public section

set_option maxRecDepth 20000

noncomputable section

namespace Cert.Ring8

open Cert.KernelIdeal Cert.KernelIdeal.Gen
open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

/-! ## Resources -/

/-- A credit counter is named by the device that waits for the credits and the ring. -/
abbrev CK : Type := Dev nD × Fin 8
/-- The pipeline's copies, the ring cells, the credit counters. -/
abbrev UP : Type := UR sig nD τ
abbrev UB : Type := URounds (GSem nD τ sig) ℕ
abbrev UC : Type := URounds CK Unit
/-- The ring cells and the credit counters, side by side. -/
def UBC : Type := UB × UC
instance UBC_ura : URA UBC := inferInstanceAs (URA (UB × UC))
def inB : Emb UB UBC := (Emb.inl : Emb UB (UB × UC))
def inC : Emb UC UBC := (Emb.inr : Emb UC (UB × UC))
abbrev UU : Type := UP × UBC

variable {F : FTy → Type} [FloatOps F]

local notation "𝕄" => MT nD τ sig ℕ (Elt F) ℕ UU ℕ

abbrev EP : Emb UP (MT nD τ sig ℕ (Elt F) ℕ UU ℕ) := embL
abbrev EBC : Emb UBC (MT nD τ sig ℕ (Elt F) ℕ UU ℕ) := embR
abbrev ER : Emb UB (MT nD τ sig ℕ (Elt F) ℕ UU ℕ) := inB.trans EBC
abbrev EC : Emb UC (MT nD τ sig ℕ (Elt F) ℕ UU ℕ) := inC.trans EBC

/-! ## The ring's directions -/

theorem fwd_bwd (q : Fin 8) (c : Dev nD) : fwd q (bwd q c) = c := by revert q c; decide
theorem bwd_fwd (q : Fin 8) (c : Dev nD) : bwd q (fwd q c) = c := by revert q c; decide

/-- The rotation of the devices along ring `q`. -/
def ringEquiv (q : Fin 8) : Dev nD ≃ Dev nD := ⟨fwd q, bwd q, bwd_fwd q, fwd_bwd q⟩

/-! ## Cells -/

/-- The barrier semaphore. -/
abbrev barS : Sem sig := (SemArray.scalar (sig.barrier 0 rfl) : Sems sig S_).sem

/-- What a device's ring semaphores are for: the barrier; an arrival in a receive slot; a read-out of a send slot; a
    ring's credits. -/
abbrev Tag : Type := Unit ⊕ ((Fin 8 × Fin 2) ⊕ ((Fin 8 × Fin 2) ⊕ Fin 8))

def semOf : Tag → SemLoc sig
  | .inl _ => .reg barS
  | .inr (.inl (q, b)) => .dma (semAt (rsems q) b)
  | .inr (.inr (.inl (q, b))) => .dma (semAt (ssems q) b)
  | .inr (.inr (.inr q)) => .reg (csem q)

theorem semOf_injective : Function.Injective semOf := by decide +kernel

/-- What a semaphore is for, if it is one of the rings'. -/
def tagOf (g : GSem nD τ sig) : Option Tag := Function.partialInv semOf g.2

abbrev cell (x : Dev nD × Tag) : GSem nD τ sig := ((x.1 : Thread nD τ), semOf x.2)
abbrev barC (c : Dev nD) : GSem nD τ sig := ((c : Thread nD τ), .reg barS)
abbrev recvC (c : Dev nD) (q : Fin 8) (b : Fin 2) : GSem nD τ sig := ((c : Thread nD τ), .dma (semAt (rsems q) b))
abbrev sendC (c : Dev nD) (q : Fin 8) (b : Fin 2) : GSem nD τ sig := ((c : Thread nD τ), .dma (semAt (ssems q) b))
abbrev credC (c : Dev nD) (q : Fin 8) : GSem nD τ sig := ((c : Thread nD τ), .reg (csem q))

theorem tagOf_cell (x : Dev nD × Tag) : tagOf (cell x) = some x.2 := Function.partialInv_left semOf_injective x.2
theorem tagOf_bar (c : Dev nD) : tagOf (barC c) = some (.inl ()) := tagOf_cell (c, .inl ())
theorem tagOf_recv (c : Dev nD) (q : Fin 8) (b : Fin 2) : tagOf (recvC c q b) = some (.inr (.inl (q, b))) := tagOf_cell (c, .inr (.inl (q, b)))
theorem tagOf_send (c : Dev nD) (q : Fin 8) (b : Fin 2) : tagOf (sendC c q b) = some (.inr (.inr (.inl (q, b)))) := tagOf_cell (c, .inr (.inr (.inl (q, b))))
theorem tagOf_cred (c : Dev nD) (q : Fin 8) : tagOf (credC c q) = some (.inr (.inr (.inr q))) := tagOf_cell (c, .inr (.inr (.inr q)))

theorem cell_injective : Function.Injective cell := by
  rintro ⟨c, t⟩ ⟨c', t'⟩ h
  obtain rfl : c = c' := congrArg (fun g : GSem nD τ sig => g.1.1) h
  exact congrArg _ (semOf_injective (congrArg Prod.snd h))

/-! ## Slots -/

/-- What one slot's transfer brings its semaphores. -/
abbrev N : ℕ := (slotM (rbuf 0) 0).view.dmaCredit
theorem N_pos : 0 < N := View.dmaCredit_pos _ (by decide)
theorem N_recv (q : Fin 8) (b : Fin 2) : (slotM (rbuf q) b).view.dmaCredit = N := by fin_cases q <;> fin_cases b <;> rfl
theorem N_send (q : Fin 8) (b : Fin 2) : (slotM (sbuf q) b).view.dmaCredit = N := by fin_cases q <;> fin_cases b <;> rfl

/-- A slot of a buffer, whole, with its contents. -/
def slotPts (c : Dev nD) (m : Memref sig .tc .vmem S2x256x1024 .bf16) (b : Fin 2) (f : m.view.ty.Contents (Elt F)) : sProp 𝕄 :=
  (slotM m b).view.loc (c : Thread nD τ) ↦[(slotM m b).view.set]{fullShare} f

instance slotPts_storable (c : Dev nD) (m : Memref sig .tc .vmem S2x256x1024 .bf16) (b : Fin 2) (f : m.view.ty.Contents (Elt F)) :
    BI.Storable (upEmb : UEmb _ 𝕄) (slotPts (F := F) c m b f) := by unfold slotPts; infer_instance

/-- A slot whose contents do not matter. -/
def slotAny (c : Dev nD) (m : Memref sig .tc .vmem S2x256x1024 .bf16) (b : Fin 2) : sProp 𝕄 := iprop(∃ f, slotPts (F := F) c m b f)

instance slotAny_storable (c : Dev nD) (m : Memref sig .tc .vmem S2x256x1024 .bf16) (b : Fin 2) :
    BI.Storable (upEmb : UEmb _ 𝕄) (slotAny (F := F) c m b) := by unfold slotAny; infer_instance

theorem slot_set (m : Memref sig .tc .vmem S2x256x1024 .bf16) (b : Fin 2) : (m.access (slotR b)).set = (slotM m b).view.set :=
  (View.set_reshape _ _).symm

/-- A transfer from a slot to a slot carries what is read of the one to what is read of the other. -/
theorem read_sent (m m' : Memref sig .tc .vmem S2x256x1024 .bf16) (b : Fin 2) (f : m.view.ty.Contents (Elt F)) (f' : m'.view.ty.Contents (Elt F)) :
    (m'.access (slotR b)).read (Elt F) ((slotM m' b).view.write (Elt F) f' ((slotM m b).view.read (Elt F) f) Finset.univ)
      = (m.access (slotR b)).read (Elt F) f := by
  funext x
  have h : S256x1024.numel = (slotR b).shape.numel := by fin_cases b <;> decide +kernel
  obtain ⟨y, rfl⟩ := (Shape.reshapeEquiv h).surjective x
  exact View.read_write_reshape (m'.access (slotR b)) h f' _ y

variable (μ : (ℓ : Loc nD τ sig) → Buf (Elt F) ℓ)

/-! ## Values -/

/-- Device `c`'s block of `x`, as staged, -/
def xv (c : Dev nD) : (cc0_stg0_0 : Ref sig .tc).ty.Contents (Elt F) := (win0_0.blk (0 : Fin 1)).view.read (Elt F) (μ ((c : Thread nD τ).loc main_arg0))
/-- of `w`, -/
def wv (c : Dev nD) : (cc0_stg1_0 : Ref sig .tc).ty.Contents (Elt F) := (win0_1.blk (0 : Fin 1)).view.read (Elt F) (μ ((c : Thread nD τ).loc main_arg1))

abbrev xM : Memref sig .tc .vmem S4096x256 .fp8e4m3 := Memref.whole cc0_stg0_0
abbrev wM : Memref sig .tc .vmem S256x8192 .fp8e4m3 := Memref.whole cc0_stg1_0
abbrev oM : Memref sig .tc .vmem S256x8192 .f32 := Memref.whole cc0_stg4_0

/-- The product of the chunk of `x` at `off` with ring `q`'s block of `w`. -/
def dotAt (c : Dev nD) (q : Fin 8) (off : Fin 2 → Nat) (h : ∀ a, off a + S256x256.size a ≤ S4096x256.size a) : FVec F S256x1024 .f32 :=
  dotV ((xM.access (Rect.unit (s := S4096x256) off S256x256.size h)).read (Elt F) (xv μ c))
    ((wM.access (Rect.unit (s := S256x8192) ![0, col q] S256x1024.size (col_inb q))).read (Elt F) (wv μ c))

/-- A step's number as an index. -/
abbrev stepIx (s : ℕ) : Fin 15 := ⟨s % 15, Nat.mod_lt _ (by decide)⟩

/-- Step `s`'s product. -/
def dots (c : Dev nD) (q : Fin 8) (s : Fin 15) : FVec F S256x1024 .f32 := dotAt μ c q (xoff q c s) (xoff_inb q c s)

/-- What device `c` has gathered in ring `q` by step `s`. -/
def acc (q : Fin 8) : ℕ → Dev nD → FVec F S256x1024 .f32
  | 0, c => dots μ c q 0
  | s + 1, c => accV (dots μ c q (stepIx (s + 1))) (packV (acc q s (bwd q c)))

/-- The sum of all devices' products for device `c`'s own chunk, in ring `q`'s columns. -/
def total (c : Dev nD) (q : Fin 8) : FVec F S256x1024 .f32 :=
  accV (dotAt μ c q (k0_off3 c) (k0_off3_inb c)) (packV (acc μ q 14 (bwd q c)))

/-! ## The schedule -/

/-- What a barrier signal hands: the receive slots of the neighbour sent to, in the rings of one direction. -/
def barPay (c : Dev nD) (i : ℕ) : sProp 𝕄 :=
  bigSep Finset.univ fun q : Fin 8 => if q.val % 2 = i then iprop(slotAny (F := F) (fwd q c) (rbuf q) 0 ∗ slotAny (F := F) (fwd q c) (rbuf q) 1) else iprop(emp)

/-- What an arrival hands: the slot, holding what the previous device had gathered by step `s`. -/
def recvPay (c : Dev nD) (q : Fin 8) (b : Fin 2) (s : ℕ) : sProp 𝕄 :=
  iprop(∃ f, ⌜((rbuf q).access (slotR b)).read (Elt F) f = packV (acc μ q s (bwd q c))⌝ ∗ slotPts (F := F) c (rbuf q) b f)

/-- What a credit hands: the mark that the next device has given back its `j`-th arrival. -/
def credPay (c : Dev nD) (q : Fin 8) (j : ℕ) : sProp 𝕄 := reached (EC (F := F)) (c, q) (j + 1)

instance barPay_storable (c : Dev nD) (i : ℕ) : BI.Storable (upEmb : UEmb _ 𝕄) (barPay (F := F) c i) := by
  unfold barPay
  have h (q : Fin 8) : BI.Storable (upEmb : UEmb _ 𝕄)
      (if q.val % 2 = i then iprop(slotAny (F := F) (fwd q c) (rbuf q) 0 ∗ slotAny (F := F) (fwd q c) (rbuf q) 1) else iprop(emp)) := by
    split <;> infer_instance
  infer_instance
instance recvPay_storable (c : Dev nD) (q : Fin 8) (b : Fin 2) (s : ℕ) : BI.Storable (upEmb : UEmb _ 𝕄) (recvPay (F := F) μ c q b s) := by
  unfold recvPay; infer_instance
instance credPay_storable (c : Dev nD) (q : Fin 8) (j : ℕ) : BI.Storable (upEmb : UEmb _ 𝕄) (credPay (F := F) c q j) := by
  unfold credPay; infer_instance

/-- A barrier is paid by both neighbours in its only round; a slot's semaphore once a round, a round for every step of
    the slot's parity; a credit semaphore thirteen times in its only round. -/
def Rd : Rounds.Schedule (GSem nD τ sig) ℕ 𝕄 where
  duties g r := match tagOf g with
    | some (.inl _) => if r = 0 then {0, 1} else ∅
    | some (.inr (.inl (_, b))) => if 2 * r + b.val ≤ 14 then {0} else ∅
    | some (.inr (.inr (.inl (_, b)))) => if 2 * r + b.val ≤ 14 then {0} else ∅
    | some (.inr (.inr (.inr _))) => if r = 0 then Finset.range 13 else ∅
    | none => ∅
  unitless _ := False
  amount g _ _ := match tagOf g with
    | some (.inr (.inl _)) => N
    | some (.inr (.inr (.inl _))) => N
    | _ => 1
  payload g r d := match tagOf g with
    | some (.inl _) => barPay g.1.1 d
    | some (.inr (.inl (q, b))) => recvPay μ g.1.1 q b (2 * r + b.val)
    | some (.inr (.inr (.inl (q, b)))) => slotAny g.1.1 (sbuf q) b
    | some (.inr (.inr (.inr q))) => credPay g.1.1 q d
    | none => iprop(emp)
  amount_pos g _ _ _ := by
    split
    · exact N_pos
    · exact N_pos
    · exact Nat.one_pos

instance Rd_storable (g : GSem nD τ sig) (r : ℕ) (d : ℕ) : BI.Storable (upEmb : UEmb _ 𝕄) ((Rd (F := F) μ).payload g r d) := by
  dsimp only [Rd]; split <;> infer_instance

section Sched
variable (c : Dev nD) (q : Fin 8) (b : Fin 2)

theorem duties_bar : (Rd (F := F) μ).duties (barC c) 0 = {0, 1} := by dsimp only [Rd]; rw [tagOf_bar]; rfl
theorem duties_recv {r : ℕ} (h : 2 * r + b.val ≤ 14) : (Rd (F := F) μ).duties (recvC c q b) r = {0} := by
  dsimp only [Rd]; rw [tagOf_recv]; exact if_pos h
theorem duties_send {r : ℕ} (h : 2 * r + b.val ≤ 14) : (Rd (F := F) μ).duties (sendC c q b) r = {0} := by
  dsimp only [Rd]; rw [tagOf_send]; exact if_pos h
theorem duties_cred : (Rd (F := F) μ).duties (credC c q) 0 = Finset.range 13 := by dsimp only [Rd]; rw [tagOf_cred]; rfl

/-- No duty after a tag's last round. -/
theorem duties_after (x : Dev nD × Tag) {R : ℕ} (h : match x.2 with | .inr (.inl (_, b)) => 15 ≤ 2 * R + b.val | .inr (.inr (.inl (_, b))) => 15 ≤ 2 * R + b.val | _ => 1 ≤ R) :
    ∀ r, R ≤ r → (Rd (F := F) μ).duties (cell x) r = ∅ := by
  intro r hr
  obtain ⟨c, t⟩ := x
  dsimp only [Rd]
  rw [tagOf_cell]
  rcases t with _ | ⟨q, b⟩ | ⟨q, b⟩ | q <;> dsimp only at h ⊢ <;> exact if_neg (by omega)

theorem amount_bar (r d : ℕ) : (Rd (F := F) μ).amount (barC c) r d = 1 := by dsimp only [Rd]; rw [tagOf_bar]
theorem amount_recv (r d : ℕ) : (Rd (F := F) μ).amount (recvC c q b) r d = N := by dsimp only [Rd]; rw [tagOf_recv]
theorem amount_send (r d : ℕ) : (Rd (F := F) μ).amount (sendC c q b) r d = N := by dsimp only [Rd]; rw [tagOf_send]
theorem amount_cred (r d : ℕ) : (Rd (F := F) μ).amount (credC c q) r d = 1 := by dsimp only [Rd]; rw [tagOf_cred]

theorem payload_bar (r d : ℕ) : (Rd (F := F) μ).payload (barC c) r d = barPay c d := by dsimp only [Rd]; rw [tagOf_bar]
theorem payload_recv (r d : ℕ) : (Rd (F := F) μ).payload (recvC c q b) r d = recvPay μ c q b (2 * r + b.val) := by dsimp only [Rd]; rw [tagOf_recv]
theorem payload_send (r d : ℕ) : (Rd (F := F) μ).payload (sendC c q b) r d = slotAny c (sbuf q) b := by dsimp only [Rd]; rw [tagOf_send]
theorem payload_cred (r d : ℕ) : (Rd (F := F) μ).payload (credC c q) r d = credPay c q d := by dsimp only [Rd]; rw [tagOf_cred]

theorem expect_bar : (Rd (F := F) μ).expect (barC c) 0 = 2 := by
  unfold Schedule.expect Schedule.amountOf
  rw [duties_bar, Finset.sum_congr rfl fun d _ => amount_bar μ c 0 d]; rfl
theorem expect_recv {r : ℕ} (h : 2 * r + b.val ≤ 14) : (Rd (F := F) μ).expect (recvC c q b) r = N := by
  unfold Schedule.expect Schedule.amountOf; rw [duties_recv μ c q b h, Finset.sum_singleton, amount_recv]
theorem expect_send {r : ℕ} (h : 2 * r + b.val ≤ 14) : (Rd (F := F) μ).expect (sendC c q b) r = N := by
  unfold Schedule.expect Schedule.amountOf; rw [duties_send μ c q b h, Finset.sum_singleton, amount_send]
theorem expect_cred : (Rd (F := F) μ).expect (credC c q) 0 = 13 := by
  unfold Schedule.expect Schedule.amountOf
  rw [duties_cred, Finset.sum_congr rfl fun d _ => amount_cred μ c q 0 d]; rfl

theorem rest_bar : bigSep ((Rd (F := F) μ).duties (barC c) 0 \ ∅) (fun d => (Rd (F := F) μ).payload (barC c) 0 d) = iprop(barPay c 0 ∗ barPay (F := F) c 1) := by
  rw [Finset.sdiff_empty, duties_bar, bigSep_insert (by decide), bigSep_singleton, payload_bar, payload_bar]; rfl
theorem rest_recv {r : ℕ} (h : 2 * r + b.val ≤ 14) :
    bigSep ((Rd (F := F) μ).duties (recvC c q b) r \ ∅) (fun d => (Rd (F := F) μ).payload (recvC c q b) r d) = recvPay μ c q b (2 * r + b.val) := by
  rw [Finset.sdiff_empty, duties_recv μ c q b h, bigSep_singleton, payload_recv]
theorem rest_send {r : ℕ} (h : 2 * r + b.val ≤ 14) :
    bigSep ((Rd (F := F) μ).duties (sendC c q b) r \ ∅) (fun d => (Rd (F := F) μ).payload (sendC c q b) r d) = slotAny (F := F) c (sbuf q) b := by
  rw [Finset.sdiff_empty, duties_send μ c q b h, bigSep_singleton, payload_send]

end Sched

/-! ## Deposits

The receive slot a credit gives back travels through an invariant, for credits may arrive out of their order: the device
that gives a credit first deposits the slot, then signals the mark that the count of deposits has grown; the one that
waits takes the slot of its own count, which a mark at least as high proves deposited. -/

/-- What a device gives back after its arrival of step `j`: the slot, and that its semaphore has gone to its next round. -/
def dep (r : Dev nD) (q : Fin 8) (j : ℕ) : sProp 𝕄 :=
  iprop(slotAny (F := F) r (rbuf q) (par j) ∗ reached (ER (F := F)) (recvC r q (par j)) (j / 2 + 1))

instance dep_storable (r : Dev nD) (q : Fin 8) (j : ℕ) : BI.Storable (upEmb : UEmb _ 𝕄) (dep (F := F) r q j) := by unfold dep; infer_instance

/-- The deposits of ring `q` between a device and the next: `n` so far, each there or taken. -/
def depBody (k : CK) : sProp 𝕄 :=
  iprop(∃ n, roundAuth (EC (F := F)) k n ∅ 0
    ∗ bigSep (Finset.range n) fun j => iprop(dep (F := F) (fwd k.2 k.1) k.2 j ∨ dutyTok (EC (F := F)) k j ()))

instance depBody_storable (k : CK) : BI.Storable (upEmb : UEmb _ 𝕄) (depBody (F := F) k) := by unfold depBody; infer_instance

/-! ## What is owed, and the levels -/

/-- What device `c` owes at step `s` of ring `q`: the next device's arrival, and in the middle steps a credit. -/
def dueR (c : Dev nD) (q : Fin 8) (s : ℕ) : CellTallies nD τ sig ℕ := tallyAt (recvC (fwd q c) q (par s)) s N
def dueC (c : Dev nD) (q : Fin 8) (s : ℕ) : CellTallies nD τ sig ℕ := if 1 ≤ s ∧ s ≤ 13 then tallyAt (credC (bwd q c) q) (s - 1) 1 else 0

/-- The ring of the `n`-th turn: the turns go through the rings, step by step. -/
abbrev ringOf (n : ℕ) : Fin 8 := ⟨n % 8, Nat.mod_lt _ (by decide)⟩

/-- What is owed from the `n`-th turn on. -/
def Ow (c : Dev nD) (n : ℕ) : CellTallies nD τ sig ℕ := ∑ i ∈ Finset.Ico n 120, (dueR c (ringOf i) (i / 8) + dueC c (ringOf i) (i / 8))

theorem Ow_step (c : Dev nD) (q : Fin 8) {s : ℕ} (h : s ≤ 14) : Ow c (8 * s + q.val) = dueR c q s + dueC c q s + Ow c (8 * s + q.val + 1) := by
  have h1 : ringOf (8 * s + q.val) = q := Fin.ext (by dsimp only; omega)
  have h2 : (8 * s + q.val) / 8 = s := by omega
  rw [Ow, Finset.sum_eq_sum_Ico_succ_bot (by omega), h1, h2]; rfl

theorem Ow_end (c : Dev nD) : Ow c 120 = 0 := by rw [Ow, Finset.Ico_self, Finset.sum_empty]

/-- What is owed at launch: every turn's dues, and one unit to both neighbours' barriers. -/
def O₁ (c : Dev nD) : CellTallies nD τ sig ℕ := Ow c 0 + tallyAt (barC (right c)) 0 1
def O₀ (c : Dev nD) : CellTallies nD τ sig ℕ := O₁ c + tallyAt (barC (left c)) 0 1

def L (g : GSem nD τ sig) : Finset ℕ := if g.1.2 = .tc then Finset.range 16 else ∅
/-- Transfers' read-outs and staging lowest, then the barrier, then arrivals and credits step by step. -/
def lv (g : GSem nD τ sig) (u : ℕ) : ℕ := match tagOf g with
  | some (.inl _) => 1
  | some (.inr (.inl _)) => u + 2
  | some (.inr (.inr (.inr _))) => u + 3
  | _ => 0

theorem L_of_ne (g : GSem nD τ sig) (h : g.1.2 ≠ .tc) : L g = ∅ := if_neg h
theorem mem_L (c : Dev nD) (sm : SemLoc sig) {u : ℕ} (h : u < 16) : u ∈ L ((c : Thread nD τ), sm) := by
  rw [L, if_pos rfl]; exact Finset.mem_range.mpr h
theorem lv_bar (c : Dev nD) (u : ℕ) : lv (barC c) u = 1 := by rw [lv, tagOf_bar]
theorem lv_recv (c : Dev nD) (q : Fin 8) (b : Fin 2) (u : ℕ) : lv (recvC c q b) u = u + 2 := by rw [lv, tagOf_recv]
theorem lv_send (c : Dev nD) (q : Fin 8) (b : Fin 2) (u : ℕ) : lv (sendC c q b) u = 0 := by rw [lv, tagOf_send]
theorem lv_cred (c : Dev nD) (q : Fin 8) (u : ℕ) : lv (credC c q) u = u + 3 := by rw [lv, tagOf_cred]

/-- Everything owed in `O` lies at level `k` or higher. -/
def AtLeast (k : ℕ) (O : CellTallies nD τ sig ℕ) : Prop := ∀ g u, 0 < O g u → u ∈ L g ∧ k ≤ lv g u

theorem AtLeast.zero (k : ℕ) : AtLeast k 0 := fun _ _ h => absurd h (Nat.lt_irrefl 0)
theorem AtLeast.add {k : ℕ} {O O' : CellTallies nD τ sig ℕ} (h : AtLeast k O) (h' : AtLeast k O') : AtLeast k (O + O') := by
  intro g u hp
  rw [Pi.add_apply, Finsupp.add_apply] at hp
  rcases Nat.eq_zero_or_pos (O g u) with h0 | h0
  · exact h' g u (by omega)
  · exact h g u h0
theorem AtLeast.tallyAt {k : ℕ} {c : Dev nD} {sm : SemLoc sig} {u n : ℕ} (hu : u < 16) (h : k ≤ lv ((c : Thread nD τ), sm) u) :
    AtLeast k (tallyAt ((c : Thread nD τ), sm) u n) := by
  intro g v hp
  rw [tallyAt_apply] at hp
  split at hp
  · rename_i e; rw [e.1, e.2]; exact ⟨mem_L c sm hu, h⟩
  · exact absurd hp (Nat.lt_irrefl 0)
theorem AtLeast.mono {k k' : ℕ} {O : CellTallies nD τ sig ℕ} (h : AtLeast k' O) (hk : k ≤ k') : AtLeast k O :=
  fun g u hp => ⟨(h g u hp).1, hk.trans (h g u hp).2⟩

theorem dueR_atLeast (c : Dev nD) (q : Fin 8) {s : ℕ} (h : s ≤ 14) : AtLeast (s + 2) (dueR c q s) :=
  AtLeast.tallyAt (by omega) (by rw [lv_recv])
theorem dueC_atLeast (c : Dev nD) (q : Fin 8) {s : ℕ} (h : s ≤ 14) : AtLeast (s + 2) (dueC c q s) := by
  unfold dueC; split
  · exact AtLeast.tallyAt (by omega) (by rw [lv_cred]; omega)
  · exact AtLeast.zero _

theorem AtLeast.sum {k : ℕ} (S : Finset ℕ) (f : ℕ → CellTallies nD τ sig ℕ) (h : ∀ i ∈ S, AtLeast k (f i)) : AtLeast k (∑ i ∈ S, f i) :=
  Finset.sum_induction _ (AtLeast k) (fun _ _ => AtLeast.add) (AtLeast.zero k) h

/-- From step `s` on everything owed lies above the waits of step `s`. -/
theorem Ow_atLeast (c : Dev nD) {s n : ℕ} (h : 8 * s ≤ n) : AtLeast (s + 2) (Ow c n) :=
  AtLeast.sum _ _ fun i hi => by
    have := Finset.mem_Ico.mp hi
    exact ((dueR_atLeast c _ (by omega)).add (dueC_atLeast c _ (by omega))).mono (by omega)

theorem O₁_atLeast (c : Dev nD) : AtLeast 1 (O₁ c) :=
  ((Ow_atLeast c (s := 0) (Nat.zero_le _)).mono (by omega)).add (AtLeast.tallyAt (by omega) (by rw [lv_bar]))
theorem O₀_atLeast (c : Dev nD) : AtLeast 1 (O₀ c) := (O₁_atLeast c).add (AtLeast.tallyAt (by omega) (by rw [lv_bar]))

/-- A device may wait at index `u` of a semaphore below everything it owes. -/
theorem mayWait (c : Dev nD) (sm : SemLoc sig) (u : ℕ) (O : CellTallies nD τ sig ℕ) (hu : u < 16) (h : AtLeast (lv ((c : Thread nD τ), sm) u + 1) O) :
    (levAts L lv : sProp 𝕄) ⊢ MayWait (c : Thread nD τ) sm u O :=
  MayOwe.of_cut (L := L) (lev := lv) (lv ((c : Thread nD τ), sm) u)
    (fun p hp => by rw [Finset.mem_singleton.mp hp]; exact mem_L c sm hu)
    (fun g v hg => (h g v hg).1)
    (fun p hp => by rw [Finset.mem_singleton.mp hp])
    (fun g v hg => (h g v hg).2)

theorem mayWait_recv (c : Dev nD) (q : Fin 8) (b : Fin 2) {u : ℕ} {O : CellTallies nD τ sig ℕ} (hu : u ≤ 14) (h : AtLeast (u + 3) O) :
    (levAts L lv : sProp 𝕄) ⊢ MayWait (c : Thread nD τ) (.dma (semAt (rsems q) b)) u O :=
  mayWait c _ u O (by omega) (h.mono (by rw [lv_recv]))
theorem mayWait_send (c : Dev nD) (q : Fin 8) (b : Fin 2) {O : CellTallies nD τ sig ℕ} (h : AtLeast 1 O) :
    (levAts L lv : sProp 𝕄) ⊢ MayWait (c : Thread nD τ) (.dma (semAt (ssems q) b)) 0 O :=
  mayWait c _ 0 O (by omega) (h.mono (by rw [lv_send]))
theorem mayWait_cred (c : Dev nD) (q : Fin 8) {u : ℕ} {O : CellTallies nD τ sig ℕ} (hu : u ≤ 14) (h : AtLeast (u + 4) O) :
    (levAts L lv : sProp 𝕄) ⊢ MayWait (c : Thread nD τ) (.reg (csem q)) u O :=
  mayWait c _ u O (by omega) (h.mono (by rw [lv_cred]))
theorem mayWait_bar (c : Dev nD) {O : CellTallies nD τ sig ℕ} (h : AtLeast 2 O) :
    (levAts L lv : sProp 𝕄) ⊢ MayWait (c : Thread nD τ) (.reg barS) 0 O :=
  mayWait c _ 0 O (by omega) (h.mono (by rw [lv_bar]))

/-! ## What every device knows -/

variable (K : Dev nD × Tag → ℕ) (J : CK → ℕ)

omit [FloatOps F] in
/-- One of many, dropping the others. -/
theorem elim_one {I : Type} [DecidableEq I] {S : Finset I} {i : I} (h : i ∈ S) {Φ : I → sProp 𝕄} : (bigSep S Φ : sProp 𝕄) ⊢ Φ i := bigSep_elim h

/-- The level facts. -/
def Levs : sProp 𝕄 := levAts L lv
instance Levs_persistent : BI.Persistent (Levs (F := F)) := by unfold Levs; infer_instance

omit [FloatOps F] in
theorem sep_erase {I : Type} [DecidableEq I] {S : Finset I} {i : I} (h : i ∈ S) (Φ : I → sProp 𝕄) : bigSep S Φ = iprop(Φ i ∗ bigSep (S.erase i) Φ) := bigSep_erase h
omit [FloatOps F] in
theorem sep_insert {I : Type} [DecidableEq I] {S : Finset I} {i : I} (h : i ∉ S) (Φ : I → sProp 𝕄) : bigSep (insert i S) Φ = iprop(Φ i ∗ bigSep S Φ) := bigSep_insert h
omit [FloatOps F] in
theorem sep_union {I : Type} [DecidableEq I] {S T : Finset I} (h : Disjoint S T) (Φ : I → sProp 𝕄) : bigSep (S ∪ T) Φ = iprop(bigSep S Φ ∗ bigSep T Φ) := bigSep_union h

/-- The cells' invariants and first rounds, the deposits' invariants, the levels. -/
def Ctx : sProp 𝕄 :=
  iprop((bigSep Finset.univ fun x : Dev nD × Tag => cellInv (ER (F := F)) (Rd μ) (K x) (cell x))
    ∗ (bigSep Finset.univ fun x : Dev nD × Tag => reached (ER (F := F)) (cell x) 0)
    ∗ (bigSep Finset.univ fun k : CK => inv (J k) (depBody (F := F) k))
    ∗ Levs (F := F))

instance Ctx_persistent : BI.Persistent (Ctx (F := F) μ K J) := by unfold Ctx; infer_instance

theorem Ctx_cell (x : Dev nD × Tag) : Ctx (F := F) μ K J ⊢ cellInv (ER (F := F)) (Rd μ) (K x) (cell x) := by
  unfold Ctx; iintro ⟨H, -⟩
  iapply (elim_one (Finset.mem_univ x) (Φ := fun x : Dev nD × Tag => cellInv (ER (F := F)) (Rd μ) (K x) (cell x))) $$ H
theorem Ctx_reached (x : Dev nD × Tag) : Ctx (F := F) μ K J ⊢ reached (ER (F := F)) (cell x) 0 := by
  unfold Ctx; iintro ⟨-, H, -⟩
  iapply (elim_one (Finset.mem_univ x) (Φ := fun x : Dev nD × Tag => reached (ER (F := F)) (cell x) 0)) $$ H
theorem Ctx_dep (k : CK) : Ctx (F := F) μ K J ⊢ inv (J k) (depBody (F := F) k) := by
  unfold Ctx; iintro ⟨-, -, H, -⟩
  iapply (elim_one (Finset.mem_univ k) (Φ := fun k : CK => inv (J k) (depBody (F := F) k))) $$ H
theorem Ctx_lev : Ctx (F := F) μ K J ⊢ Levs (F := F) := by
  unfold Ctx; iintro ⟨-, -, -, H⟩; iexact H

section Waits
variable {c : Dev nD} {O : CellTallies nD τ sig ℕ}

theorem Ctx_wait_recv (q : Fin 8) (b : Fin 2) {u : ℕ} (hu : u ≤ 14) (h : AtLeast (u + 3) O) :
    Ctx (F := F) μ K J ⊢ MayWait (c : Thread nD τ) (.dma (semAt (rsems q) b)) u O := by
  iintro H; ihave H := (Ctx_lev μ K J) $$ H
  unfold Levs
  iapply (mayWait_recv c q b hu h) $$ H
theorem Ctx_wait_send (q : Fin 8) (b : Fin 2) (h : AtLeast 1 O) :
    Ctx (F := F) μ K J ⊢ MayWait (c : Thread nD τ) (.dma (semAt (ssems q) b)) 0 O := by
  iintro H; ihave H := (Ctx_lev μ K J) $$ H
  unfold Levs
  iapply (mayWait_send c q b h) $$ H
theorem Ctx_wait_cred (q : Fin 8) {u : ℕ} (hu : u ≤ 14) (h : AtLeast (u + 4) O) :
    Ctx (F := F) μ K J ⊢ MayWait (c : Thread nD τ) (.reg (csem q)) u O := by
  iintro H; ihave H := (Ctx_lev μ K J) $$ H
  unfold Levs
  iapply (mayWait_cred c q hu h) $$ H
theorem Ctx_wait_bar (h : AtLeast 2 O) :
    Ctx (F := F) μ K J ⊢ MayWait (c : Thread nD τ) (.reg barS) 0 O := by
  iintro H; ihave H := (Ctx_lev μ K J) $$ H
  unfold Levs
  iapply (mayWait_bar c h) $$ H

end Waits

end Cert.Ring8

end
-- ==== Proof.Steps.lean ====
/-
  What a device does in one step of one ring, operation by operation: the wait for an arrival, the wait for a credit, the
  store, the credit given, the transfer started.
-/
module

public import proofs.«01_k».proof.Proof.Common

@[expose] public section

set_option maxRecDepth 20000

noncomputable section

namespace Cert.Ring8

open Cert.KernelIdeal Cert.KernelIdeal.Gen
open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

variable {F : FTy → Type} [FloatOps F]

local notation "𝕄" => MT nD τ sig ℕ (Elt F) ℕ UU ℕ

abbrev 𝒱₀ : Variants := Variants.none

/-- Device `c` running `p` to `Q`. -/
abbrev Wp (c : Dev nD) {α : Type} (p : KP F α) (Q : α → sProp 𝕄) : sProp 𝕄 :=
  wp frame (wpE (defs₀ (F := F)) 𝒱₀ (c : Thread nD τ) none) Set.univ p Q

theorem Wp_bind (c : Dev nD) {α β : Type} (p : KP F α) (k : α → KP F β) (Q : β → sProp 𝕄) :
    Wp c (p >>= k) Q = Wp c p fun a => Wp c (k a) Q := wp_bind frame (wpE (defs₀ (F := F)) 𝒱₀ (c : Thread nD τ) none) Set.univ p k Q

/-- What device `c` owes, whatever it has waited for. -/
def OW (c : Dev nD) (O : CellTallies nD τ sig ℕ) : sProp 𝕄 := iprop(∃ W, owes (c : Thread nD τ) O W)

theorem par_add (a : ℕ) : par (a + 2) = par a := Fin.ext (by dsimp only; omega)
theorem half_add (a : ℕ) : (a + 2) / 2 = a / 2 + 1 := by omega
theorem half_par (a : ℕ) : 2 * (a / 2) + (par a).val = a := by dsimp only; omega

/-! ## Loads and stores of slots -/

theorem loadSlot_wp (c : Dev nD) (m : Memref sig .tc .vmem S2x256x1024 .bf16) (b : Fin 2) (f : m.view.ty.Contents (Elt F)) (Q : Vec F S1x256x1024 .bf16 → sProp 𝕄) :
    slotPts (F := F) c m b f ⊢ iprop((slotPts (F := F) c m b f -∗ Q ((m.access (slotR b)).read (Elt F) f)) -∗ Wp c (loadSlot m b) Q) := by
  unfold slotPts
  iintro H Hk
  simp only [Prog.lift]
  iapply (wp_load_rect 𝒱₀ (c : Thread nD τ) none Set.univ (m := m) (r := slotR b) (slot_set m b).le) $$ H
  iintro H
  rw [wp_ret]; imodintro
  iapply Hk $$ H

theorem storeSlot_wp (c : Dev nD) (q : Fin 8) (b : Fin 2) (f : (sbuf q).view.ty.Contents (Elt F)) (v : FVec F S1x256x1024 .bf16) (Q : PUnit → sProp 𝕄) :
    slotPts (F := F) c (sbuf q) b f
      ⊢ iprop((∀ f', ⌜((sbuf q).access (slotR b)).read (Elt F) f' = v⌝ ∗ slotPts (F := F) c (sbuf q) b f' -∗ Q ⟨⟩) -∗ Wp c (storeSlot q b v) Q) := by
  unfold slotPts
  iintro H Hk
  simp only [Prog.lift]
  iapply (wp_store 𝒱₀ (c : Thread nD τ) none Set.univ (m := sbuf q) (r := slotR b) (Mk := Finset.univ)
    (S := (slotM (sbuf q) b).view.set) (f := f) (slot_set (sbuf q) b).le) $$ H
  iintro H
  rw [wp_ret]; imodintro
  iapply Hk
  isplitr
  · ipureintro; exact View.read_write_univ (v := (sbuf q).access (slotR b)) f v
  iexact H

variable (μ : (ℓ : Loc nD τ sig) → Buf (Elt F) ℓ) (K : Dev nD × Tag → ℕ) (J : CK → ℕ)

/-! ## Arrivals -/

/-- Device `c` at its receive semaphore of step `a`'s slot. -/
def recvSt (c : Dev nD) (q : Fin 8) (a : ℕ) : sProp 𝕄 := atPos (ER (F := F)) (recvC c q (par a)) (a / 2) ∅ 0

theorem waitRecv_wp (c : Dev nD) (q : Fin 8) {a : ℕ} (ha : a ≤ 14) (O : CellTallies nD τ sig ℕ) (hO : AtLeast (a + 3) O) (Q : PUnit → sProp 𝕄) :
    iprop(Ctx (F := F) μ K J ∗ recvSt (F := F) c q a ∗ cred (tallyAt (recvC c q (par a)) a N) ∗ OW (F := F) c O)
      ⊢ iprop((OW (F := F) c O ∗ recvSt (F := F) c q (a + 2) ∗ reached (ER (F := F)) (recvC c q (par a)) (a / 2 + 1) ∗ recvPay μ c q (par a) a -∗ Q ⟨⟩)
          -∗ Wp c (waitRecv q (par a)) Q) := by
  unfold recvSt OW
  rw [par_add, half_add]
  iintro ⟨#HX, Hat, Hcr, ⟨%W, HO⟩⟩ Hk
  simp only [Prog.lift]
  iapply (Rounds.wp_wait_rest_token 𝒱₀ ER (Rd μ) (c : Thread nD τ) none (κ := K (c, .inr (.inl (q, par a))))
      (wpE_waitDma2_eq 𝒱₀ (c : Thread nD τ) none Set.univ) (Set.mem_univ _) a (O := O) (W := W) (R := a / 2) (m := 0) (T := ∅)
      (by rw [Nat.zero_add, expect_recv μ c q (par a) (by rw [half_par]; exact ha)])) $$ [Hcr HO Hat]
  · isplitr; · iapply (Ctx_cell μ K J (c, .inr (.inl (q, par a)))); iexact HX
    isplitl [Hcr]; · iexact Hcr
    isplitl [HO]; · iexact HO
    isplitr; · iapply (Ctx_wait_recv μ K J q (par a) ha hO); iexact HX
    iexact Hat
  iintro ⟨HO, Hat, Hr, Hpay⟩
  ihave Hpay := (Entails.of_eq (rest_recv μ c q (par a) (r := a / 2) (by rw [half_par]; exact ha))) $$ Hpay
  rw [half_par]
  rw [wp_ret]; imodintro
  iapply Hk
  isplitl [HO]; · iexists _; iexact HO
  isplitl [Hat]; · iexact Hat
  isplitl [Hr]; · iexact Hr
  iexact Hpay

/-! ## Deposits -/

/-- A mark that the deposits number at least `j + 1` and the ticket for the `j`-th take that deposit out. -/
theorem dep_take (k : CK) (j : ℕ) :
    iprop(Ctx (F := F) μ K J ∗ reached (EC (F := F)) k (j + 1) ∗ dutyTok (EC (F := F)) k j ()) ⊢ iprop(|={Set.univ}=> dep (F := F) (fwd k.2 k.1) k.2 j) := by
  iintro ⟨#HX, #Hr, Ht⟩
  ihave #HI := (Ctx_dep μ K J k) $$ HX
  imod (inv_acc (ι := J k) (E := Set.univ) (Set.mem_univ _)) $$ HI with ⟨Hb, Hc⟩
  unfold depBody
  icases Hb with ⟨%n, Ha, Hs⟩
  ihave %hn := (roundAuth_reached_le (EC (F := F)) (g := k) (R := n) (C := ∅) (m := 0) (r := j + 1)) $$ [Ha]
  · isplitl [Ha]; · iexact Ha
    iexact Hr
  have hj : j ∈ Finset.range n := Finset.mem_range.mpr (by omega)
  ihave Hs := (Entails.of_eq (sep_erase hj _)) $$ Hs
  icases Hs with ⟨(Hd | Ht'), Hs⟩
  · imod Hc $$ [Ha Hs Ht]
    · iexists n
      isplitl [Ha]; · iexact Ha
      rw [sep_erase hj]
      isplitl [Ht]; · iright; iexact Ht
      iexact Hs
    imodintro; iexact Hd
  · iexfalso
    iapply (dutyTok_dutyTok_false (EC (F := F)) (g := k) (r := j) (d := ()))
    isplitl [Ht] <;> iassumption

/-- A deposit put in: the count grows by one, and there is a mark of it. -/
theorem dep_give (k : CK) (n : ℕ) :
    iprop(Ctx (F := F) μ K J ∗ atPos (EC (F := F)) k n ∅ 0 ∗ dep (F := F) (fwd k.2 k.1) k.2 n)
      ⊢ iprop(|={Set.univ}=> (atPos (EC (F := F)) k (n + 1) ∅ 0 ∗ reached (EC (F := F)) k (n + 1))) := by
  iintro ⟨#HX, Hat, Hd⟩
  ihave #HI := (Ctx_dep μ K J k) $$ HX
  imod (inv_acc (ι := J k) (E := Set.univ) (Set.mem_univ _)) $$ HI with ⟨Hb, Hc⟩
  unfold depBody
  icases Hb with ⟨%n', Ha, Hs⟩
  ihave %hn := (roundAuth_atPos_agree (EC (F := F)) (g := k) (R := n') (C := ∅) (m := 0) (R' := n) (C' := ∅) (m' := 0)) $$ [Ha Hat]
  · isplitl [Ha] <;> iassumption
  obtain ⟨rfl, -, -⟩ := hn
  imod (roundAuth_atPos_move (EC (F := F)) (g := k) (R := n) (C := ∅) (m := 0) (n + 1) ∅ 0 (Nat.le_succ n)) $$ [Ha Hat] with ⟨Ha, Hat⟩
  · isplitl [Ha] <;> iassumption
  imod (roundAuth_witness (EC (F := F))) $$ Ha with ⟨Ha, Hr⟩
  imod Hc $$ [Ha Hs Hd]
  · iexists (n + 1)
    isplitl [Ha]; · iexact Ha
    rw [Finset.range_add_one, sep_insert Finset.notMem_range_self]
    isplitl [Hd]; · ileft; iexact Hd
    iexact Hs
  imodintro
  isplitl [Hat] <;> iassumption

/-! ## Credits -/

/-- Device `c` having waited for `j` credits of ring `q`: the marks that came with those it has seen. -/
def credSt (c : Dev nD) (q : Fin 8) (j : ℕ) : sProp 𝕄 :=
  iprop(∃ T : Finset ℕ, ⌜T ⊆ Finset.range 13 ∧ j ≤ T.card⌝ ∗ atPos (ER (F := F)) (credC c q) 0 T j ∗ bigSep T fun i => reached (EC (F := F)) (c, q) (i + 1))

theorem waitCred_wp (c : Dev nD) (q : Fin 8) {j : ℕ} (hj : j ≤ 12) (O : CellTallies nD τ sig ℕ) (hO : AtLeast (j + 4) O) (Q : PUnit → sProp 𝕄) :
    iprop(Ctx (F := F) μ K J ∗ credSt (F := F) c q j ∗ cred (tallyAt (credC c q) j 1) ∗ dutyTok (EC (F := F)) (c, q) j () ∗ OW (F := F) c O)
      ⊢ iprop((OW (F := F) c O ∗ credSt (F := F) c q (j + 1) ∗ dep (F := F) (fwd q c) q j -∗ Q ⟨⟩)
          -∗ Wp c (semWaitWord (csem q) 1#32) Q) := by
  unfold OW
  iintro ⟨#HX, Hst, Hcr, Htk, ⟨%W, HO⟩⟩ Hk
  unfold credSt
  icases Hst with ⟨%T, %hT, Hat, #HT⟩
  simp only [semWaitWord]
  iapply (Rounds.wp_wait 𝒱₀ ER (Rd μ) (c : Thread nD τ) none (κ := K (c, .inr (.inr (.inr q))))
      (wpE_semWait_eq 𝒱₀ (c : Thread nD τ) none Set.univ) (Set.mem_univ _) {(.reg (csem q), j)} (cr := Finsupp.single j 1) (O := O) (W := W) (R := 0) (m := j) (T := T)
      (by rw [Util.total_single]; decide) (image_single_subset (.reg (csem q)) j 1)) $$ [Hcr HO Hat]
  · isplitr; · iapply (Ctx_cell μ K J (c, .inr (.inr (.inr q)))); iexact HX
    isplitl [Hcr]; · iexact Hcr
    isplitl [HO]; · iexact HO
    isplitr; · iapply (Ctx_wait_cred μ K J q (by omega) hO); iexact HX
    iexact Hat
  iintro %S ⟨%hS, HO, Hat, Hpay⟩
  rw [duties_cred, expect_cred] at hS
  obtain ⟨h1, h2, h3⟩ := hS
  have h1' : (1#32 : BitVec 32).toInt.toNat = 1 := by decide
  have hcard : j + 1 ≤ S.card := by
    have := Finset.card_sdiff_add_card_eq_card h2
    rw [Finset.card_range] at this
    have h3' : j + 1 + (Finset.range 13 \ S).card ≤ 13 := h3
    omega
  obtain ⟨i, hi, hij⟩ : ∃ i ∈ S, j ≤ i := by
    by_contra hn
    have : S ⊆ Finset.range j := fun i hi => Finset.mem_range.mpr (by by_contra h; exact hn ⟨i, hi, by omega⟩)
    have := Finset.card_le_card this
    rw [Finset.card_range] at this
    omega
  have hpay : bigSep (S \ T) (fun d => (Rd (F := F) μ).payload (credC c q) 0 d) = bigSep (S \ T) fun i => reached (EC (F := F)) (c, q) (i + 1) :=
    bigSep_congr fun d _ => payload_cred μ c q 0 d
  ihave #Hnew := (Entails.of_eq hpay) $$ Hpay
  ihave #Hall : (bigSep S fun i => reached (EC (F := F)) (c, q) (i + 1)) $$ []
  · iapply (Entails.of_eq ((sep_union Finset.disjoint_sdiff _).symm.trans (congrArg (fun A => bigSep A fun i => reached (EC (F := F)) (c, q) (i + 1)) (Finset.union_sdiff_of_subset h1))))
    isplitr; · iexact HT
    iexact Hnew
  ihave #Hr := (elim_one hi (Φ := fun i => reached (EC (F := F)) (c, q) (i + 1))) $$ Hall
  ihave #Hr' := (reached_mono (EC (F := F)) (g := (c, q)) (show j + 1 ≤ i + 1 by omega)) $$ Hr
  rw [wp_ret]
  imod (dep_take μ K J (c, q) j) $$ [Htk] with Hd
  · isplitr; · iexact HX
    isplitr; · iexact Hr'
    iexact Htk
  imodintro
  iapply Hk
  isplitl [HO]; · iexists _; iexact HO
  isplitl [Hat]
  · iexists S
    isplitr; · ipureintro; exact ⟨h2, hcard⟩
    isplitl [Hat]; · iexact Hat
    iexact Hall
  iexact Hd

/-! ## Gathering -/

/-- Something there only in some steps. -/
abbrev onlyIf (p : Prop) [Decidable p] (A : sProp 𝕄) : sProp 𝕄 := if p then A else iprop(emp)

theorem acc_succ (c : Dev nD) (q : Fin 8) {s : ℕ} (hs : 1 ≤ s) :
    acc μ q s c = accV (dots μ c q (stepIx s)) (packV (acc μ q (s - 1) (bwd q c))) := by
  obtain ⟨a, rfl⟩ : ∃ a, s = a + 1 := ⟨s - 1, by omega⟩
  rfl

theorem gather_wp (c : Dev nD) (q : Fin 8) {s : ℕ} (hs : s ≤ 14) (O : CellTallies nD τ sig ℕ) (hO : AtLeast (s + 2) O)
    (Q : FVec F S256x1024 .f32 → sProp 𝕄) :
    iprop(Ctx (F := F) μ K J ∗ recvSt (F := F) c q (s - 1) ∗ recvSt (F := F) c q (s - 1 + 1)
        ∗ onlyIf (1 ≤ s) (cred (tallyAt (recvC c q (par (s - 1))) (s - 1) N)) ∗ OW (F := F) c O)
      ⊢ iprop((OW (F := F) c O ∗ recvSt (F := F) c q s ∗ recvSt (F := F) c q (s + 1) ∗ onlyIf (1 ≤ s) (dep (F := F) c q (s - 1)) -∗ Q (acc μ q s c))
          -∗ Wp c (gatherP q s (dots μ c q (stepIx s))) Q) := by
  rcases Nat.eq_zero_or_pos s with rfl | h
  · unfold onlyIf
    rw [if_neg (by decide), if_neg (by decide), show gatherP (F := F) q 0 (dots μ c q (stepIx 0)) = pure (dots μ c q (stepIx 0)) from if_pos rfl]
    simp only [Prog.pure_eq_ret, wp_ret]
    iintro ⟨-, H0, H1, -, HO⟩ Hk
    rw [show dots μ c q (stepIx 0) = acc μ q 0 c from rfl]
    imodintro
    iapply Hk
    isplitl [HO]; · iexact HO
    isplitl [H0]; · iexact H0
    isplitl [H1]; · iexact H1
    iempintro
  · unfold onlyIf
    rw [show (if 1 ≤ s then cred (tallyAt (recvC c q (par (s - 1))) (s - 1) N) else iprop(emp) : sProp 𝕄) = _ from if_pos h,
      show (if 1 ≤ s then dep (F := F) c q (s - 1) else iprop(emp)) = _ from if_pos h,
      show gatherP (F := F) q s (dots μ c q (stepIx s)) = _ from if_neg (by omega)]
    have e1 : s - 1 + 1 = s := by omega
    have e2 : s - 1 + 2 = s + 1 := by omega
    rw [e1]
    iintro ⟨#HX, H0, H1, Hc, HO⟩ Hk
    rw [Wp_bind]
    iapply (waitRecv_wp μ K J c q (a := s - 1) (by omega) O (hO.mono (by omega))) $$ [H0 Hc HO]
    · isplitr; · iexact HX
      isplitl [H0]; · iexact H0
      isplitl [Hc] <;> iassumption
    rw [e2]
    iintro ⟨HO, H0, Hr, Hp⟩
    unfold recvPay
    icases Hp with ⟨%f, %hf, Hp⟩
    rw [Wp_bind]
    iapply (loadSlot_wp c (rbuf q) (par (s - 1)) f) $$ Hp
    iintro Hp
    rw [hf, ← acc_succ μ c q h]
    simp only [Prog.pure_eq_ret, wp_ret]
    imodintro
    iapply Hk
    isplitl [HO]; · iexact HO
    isplitl [H1]; · iexact H1
    isplitl [H0]; · iexact H0
    unfold dep
    isplitl [Hp]; · unfold slotAny; iexists f; iexact Hp
    iexact Hr

/-! ## The send slots -/

/-- Device `c`'s send semaphore and slot of step `u`, and the next device's receive slot: to begin with all there; later
    out with the transfer of two steps before. -/
def avail (c : Dev nD) (q : Fin 8) (u : ℕ) : sProp 𝕄 :=
  if u < 2 then iprop(atPos (ER (F := F)) (sendC c q (par u)) 0 ∅ 0 ∗ slotAny (F := F) c (sbuf q) (par u) ∗ slotAny (F := F) (fwd q c) (rbuf q) (par u))
  else iprop(atPos (ER (F := F)) (sendC c q (par u)) (u / 2 - 1) ∅ 0 ∗ cred (tallyAt (sendC c q (par u)) 0 N))

/-- All that a transfer of step `s` takes. -/
def ready (c : Dev nD) (q : Fin 8) (s : ℕ) : sProp 𝕄 :=
  iprop(atPos (ER (F := F)) (sendC c q (par s)) (s / 2) ∅ 0 ∗ reached (ER (F := F)) (sendC c q (par s)) (s / 2) ∗ slotAny (F := F) c (sbuf q) (par s)
    ∗ slotAny (F := F) (fwd q c) (rbuf q) (par s) ∗ reached (ER (F := F)) (recvC (fwd q c) q (par s)) (s / 2))

theorem waitSend_wp (c : Dev nD) (q : Fin 8) {s : ℕ} (h2 : 2 ≤ s) (hs : s ≤ 16) (O : CellTallies nD τ sig ℕ) (hO : AtLeast 1 O) (Q : PUnit → sProp 𝕄) :
    iprop(Ctx (F := F) μ K J ∗ avail (F := F) c q s ∗ OW (F := F) c O)
      ⊢ iprop((OW (F := F) c O ∗ atPos (ER (F := F)) (sendC c q (par s)) (s / 2) ∅ 0 ∗ reached (ER (F := F)) (sendC c q (par s)) (s / 2)
            ∗ slotAny (F := F) c (sbuf q) (par s) -∗ Q ⟨⟩)
          -∗ Wp c (waitSend q (par s)) Q) := by
  unfold avail OW
  rw [if_neg (by omega)]
  have hr : 2 * (s / 2 - 1) + (par s).val ≤ 14 := by dsimp only; omega
  have hs1 : s / 2 - 1 + 1 = s / 2 := by omega
  iintro ⟨#HX, ⟨Hat, Hcr⟩, ⟨%W, HO⟩⟩ Hk
  simp only [Prog.lift]
  iapply (Rounds.wp_wait_rest_token 𝒱₀ ER (Rd μ) (c : Thread nD τ) none (κ := K (c, .inr (.inr (.inl (q, par s)))))
      (wpE_waitDma2_eq 𝒱₀ (c : Thread nD τ) none Set.univ) (Set.mem_univ _) 0 (O := O) (W := W) (R := s / 2 - 1) (m := 0) (T := ∅)
      (by rw [Nat.zero_add, expect_send μ c q (par s) hr])) $$ [Hcr HO Hat]
  · isplitr; · iapply (Ctx_cell μ K J (c, .inr (.inr (.inl (q, par s))))); iexact HX
    isplitl [Hcr]; · iexact Hcr
    isplitl [HO]; · iexact HO
    isplitr; · iapply (Ctx_wait_send μ K J q (par s) hO); iexact HX
    iexact Hat
  rw [hs1]
  iintro ⟨HO, Hat, Hr, Hpay⟩
  ihave Hpay := (Entails.of_eq (rest_send μ c q (par s) hr)) $$ Hpay
  rw [wp_ret]; imodintro
  iapply Hk
  isplitl [HO]; · iexists _; iexact HO
  isplitl [Hat]; · iexact Hat
  isplitl [Hr]; · iexact Hr
  iexact Hpay

theorem free_wp (c : Dev nD) (q : Fin 8) {s : ℕ} (hs : s ≤ 14) (O : CellTallies nD τ sig ℕ) (hO : AtLeast (s + 2) O) (Q : PUnit → sProp 𝕄) :
    iprop(Ctx (F := F) μ K J ∗ avail (F := F) c q s ∗ credSt (F := F) c q (s - 2)
        ∗ onlyIf (2 ≤ s) iprop(cred (tallyAt (credC c q) (s - 2) 1) ∗ dutyTok (EC (F := F)) (c, q) (s - 2) ()) ∗ OW (F := F) c O)
      ⊢ iprop((OW (F := F) c O ∗ ready (F := F) c q s ∗ credSt (F := F) c q (s + 1 - 2) -∗ Q ⟨⟩) -∗ Wp c (freeP q s) Q) := by
  unfold ready onlyIf
  by_cases h : 2 ≤ s
  · have e1 : s - 2 + 1 = s + 1 - 2 := by omega
    have e2 : par (s - 2) = par s := Fin.ext (by dsimp only; omega)
    have e3 : (s - 2) / 2 + 1 = s / 2 := by omega
    rw [if_pos h, show freeP (F := F) q s = _ from if_pos h]
    iintro ⟨#HX, Ha, Hst, ⟨Hcr, Htk⟩, HO⟩ Hk
    rw [Wp_bind]
    iapply (waitCred_wp μ K J c q (j := s - 2) (by omega) O (hO.mono (by omega))) $$ [Hst Hcr Htk HO]
    · isplitr; · iexact HX
      isplitl [Hst]; · iexact Hst
      isplitl [Hcr]; · iexact Hcr
      isplitl [Htk] <;> iassumption
    rw [e1]
    unfold dep
    rw [e2, e3]
    iintro ⟨HO, Hst, Hn, Hrn⟩
    iapply (waitSend_wp μ K J c q h (by omega) O (hO.mono (by omega))) $$ [Ha HO]
    · isplitr; · iexact HX
      isplitl [Ha] <;> iassumption
    iintro ⟨HO, Hat, Hr, Hs⟩
    iapply Hk
    isplitl [HO]; · iexact HO
    isplitr [Hst]
    · isplitl [Hat]; · iexact Hat
      isplitl [Hr]; · iexact Hr
      isplitl [Hs]; · iexact Hs
      isplitl [Hn] <;> iassumption
    iexact Hst
  · have e1 : s + 1 - 2 = s - 2 := by omega
    have e2 : s / 2 = 0 := by omega
    unfold avail
    rw [if_neg h, show freeP (F := F) q s = _ from if_neg h, if_pos (by omega), e1, e2]
    simp only [Prog.pure_eq_ret, wp_ret]
    iintro ⟨#HX, ⟨Hat, Hs, Hn⟩, Hst, -, HO⟩ Hk
    imodintro
    iapply Hk
    isplitl [HO]; · iexact HO
    isplitr [Hst]
    · isplitl [Hat]; · iexact Hat
      isplitr; · iapply (Ctx_reached μ K J (c, .inr (.inr (.inl (q, par s))))); iexact HX
      isplitl [Hs]; · iexact Hs
      isplitl [Hn]; · iexact Hn
      iapply (Ctx_reached μ K J (fwd q c, .inr (.inl (q, par s)))); iexact HX
    iexact Hst

/-! ## Transfers -/

theorem send_wp (c : Dev nD) (q : Fin 8) {s : ℕ} (hs : s ≤ 14) (O : CellTallies nD τ sig ℕ) (f : (sbuf q).view.ty.Contents (Elt F))
    (hf : ((sbuf q).access (slotR (par s))).read (Elt F) f = packV (acc μ q s c)) (Q : PUnit → sProp 𝕄) :
    iprop(Ctx (F := F) μ K J ∗ slotPts (F := F) c (sbuf q) (par s) f ∗ slotAny (F := F) (fwd q c) (rbuf q) (par s)
        ∗ reached (ER (F := F)) (sendC c q (par s)) (s / 2) ∗ reached (ER (F := F)) (recvC (fwd q c) q (par s)) (s / 2)
        ∗ dutyTok (ER (F := F)) (sendC c q (par s)) (s / 2) 0 ∗ dutyTok (ER (F := F)) (recvC (fwd q c) q (par s)) (s / 2) 0
        ∗ OW (F := F) c (O + dueR c q s))
      ⊢ iprop((OW (F := F) c O ∗ cred (tallyAt (sendC c q (par s)) 0 N) -∗ Q ⟨⟩) -∗ Wp c (sendSlot q c (par s)) Q) := by
  unfold OW slotAny
  have hr : 2 * (s / 2) + (par s).val ≤ 14 := by rw [half_par]; exact hs
  iintro ⟨#HX, Hs, ⟨%fd, Hd⟩, #Hr1, #Hr2, Ht1, Ht2, ⟨%W, HO⟩⟩ Hk
  simp only [Prog.lift]
  iapply (Rounds.wp_send_pointsTo 𝒱₀ ER (Rd μ) (c : Thread nD τ) none (c' := (fwd q c : Thread nD τ)) (src := slotM (sbuf q) (par s)) (dst := slotM (rbuf q) (par s))
      (κ₁ := K (c, .inr (.inr (.inl (q, par s))))) (κ₂ := K (fwd q c, .inr (.inl (q, par s))))
      (r₁ := s / 2) (r₂ := s / 2) (d₁ := 0) (d₂ := 0) (fs := f) (fd := fd)
      (by rw [duties_send μ c q (par s) hr]; exact Finset.mem_singleton_self 0)
      (by rw [duties_recv μ (fwd q c) q (par s) hr]; exact Finset.mem_singleton_self 0)
      s 0 N (sem := .dma (semAt (rsems q) (par s))) (sS := .dma (semAt (ssems q) (par s))) (N_recv q (par s)) (amount_send μ c q (par s) (s / 2) 0) (amount_recv μ (fwd q c) q (par s) (s / 2) 0) O rfl (W := W)
      (by rw [payload_send]; unfold slotAny slotPts; iintro H; iexists f; iexact H)
      (by
        rw [payload_recv, half_par]; unfold recvPay slotPts; iintro H
        iexists ((slotM (rbuf q) (par s)).view.write (Elt F) fd ((slotM (sbuf q) (par s)).view.read (Elt F) f) Finset.univ)
        isplitr
        · ipureintro; rw [bwd_fwd, ← hf]; exact read_sent (sbuf q) (rbuf q) (par s) f fd
        iexact H)) $$ [Hs Hd HO Ht1 Ht2]
  · isplitr; · iapply (Ctx_cell μ K J (c, .inr (.inr (.inl (q, par s))))); iexact HX
    isplitr; · iapply (Ctx_cell μ K J (fwd q c, .inr (.inl (q, par s)))); iexact HX
    isplitl [Hs]; · unfold slotPts; iexact Hs
    isplitl [Hd]; · unfold slotPts; iexact Hd
    isplitl [HO]; · iexact HO
    isplitl [Ht1]; · iexact Ht1
    isplitr; · iexact Hr1
    isplitl [Ht2]; · iexact Ht2
    iexact Hr2
  iintro ⟨Hc, HO⟩
  rw [wp_ret]; imodintro
  iapply Hk
  isplitl [HO]; · iexists W; iexact HO
  iexact Hc

/-! ## Credits given -/

theorem credit_wp (c : Dev nD) (q : Fin 8) {s : ℕ} (hs : s ≤ 14) (O : CellTallies nD τ sig ℕ) (Q : PUnit → sProp 𝕄) :
    iprop(Ctx (F := F) μ K J ∗ atPos (EC (F := F)) (bwd q c, q) (min (s - 1) 13) ∅ 0
        ∗ onlyIf (1 ≤ s ∧ s ≤ 13) (dutyTok (ER (F := F)) (credC (bwd q c) q) 0 (s - 1))
        ∗ onlyIf (1 ≤ s) (dep (F := F) c q (s - 1)) ∗ OW (F := F) c (O + dueC c q s))
      ⊢ iprop((OW (F := F) c O ∗ atPos (EC (F := F)) (bwd q c, q) (min s 13) ∅ 0 ∗ onlyIf (15 ≤ s + 1) (dep (F := F) c q 13) -∗ Q ⟨⟩)
          -∗ Wp c (creditP q c s) Q) := by
  unfold onlyIf dueC
  by_cases h : 1 ≤ s ∧ s ≤ 13
  · have e1 : min (s - 1) 13 = s - 1 := by omega
    have e2 : min s 13 = s - 1 + 1 := by omega
    unfold OW
    rw [if_pos h, if_pos h, show creditP (F := F) q c s = _ from if_pos h, if_pos h.1, if_neg (by omega), e1, e2]
    iintro ⟨#HX, Hat, Ht, Hd, ⟨%W, HO⟩⟩ Hk
    simp only [semSignalWord]
    iapply (fupd_wp frame (wpE (defs₀ (F := F)) 𝒱₀ (c : Thread nD τ) none) Set.univ)
    imod (dep_give μ K J (bwd q c, q) (s - 1)) $$ [Hat Hd] with ⟨Hat, Hm⟩
    · isplitr; · iexact HX
      isplitl [Hat]; · iexact Hat
      dsimp only
      rw [fwd_bwd]; iexact Hd
    imodintro
    iapply (Rounds.wp_signal 𝒱₀ ER (Rd μ) (c : Thread nD τ) none (dst := (bwd q c : Thread nD τ)) (κ := K (bwd q c, .inr (.inr (.inr q))))
        (r := 0) (d := s - 1) (by rw [duties_cred]; exact Finset.mem_range.mpr (by omega)) ((amount_cred μ (bwd q c) q 0 (s - 1)).trans (by decide)) (s - 1) O rfl)
      $$ [HO Ht Hm]
    · isplitr; · iapply (Ctx_cell μ K J (bwd q c, .inr (.inr (.inr q)))); iexact HX
      isplitl [HO]; · iexact HO
      isplitl [Ht]; · iexact Ht
      isplitl [Hm]; · rw [payload_cred]; unfold credPay; iexact Hm
      iapply (Ctx_reached μ K J (bwd q c, .inr (.inr (.inr q)))); iexact HX
    iintro HO
    rw [wp_ret]; imodintro
    iapply Hk
    isplitl [HO]; · iexists W; iexact HO
    isplitl [Hat]; · iexact Hat
    iempintro
  · rw [if_neg h, if_neg h, show creditP (F := F) q c s = _ from if_neg h, add_zero]
    simp only [Prog.pure_eq_ret, wp_ret]
    iintro ⟨-, Hat, -, Hd, HO⟩ Hk
    imodintro
    iapply Hk
    isplitl [HO]; · iexact HO
    rcases Nat.eq_zero_or_pos s with rfl | h1
    · isplitl [Hat]; · iexact Hat
      rw [if_neg (by decide)]; iempintro
    · obtain rfl : s = 14 := by omega
      isplitl [Hat]; · iexact Hat
      iapply (Entails.of_eq (show onlyIf (F := F) (1 ≤ 14) (dep (F := F) c q 13) = onlyIf (F := F) (15 ≤ 14 + 1) (dep (F := F) c q 13) from by
        unfold onlyIf; rw [if_pos (by decide), if_pos (by decide)]))
      iexact Hd

/-! ## One step of one ring -/

/-- What steps `u` on of ring `q` take from the launch: the tokens of the transfer and the credit of that step, the credit
    tokens of the arrival and the credit waited for, and the ticket for the deposit. -/
def tok (c : Dev nD) (q : Fin 8) (u : ℕ) : sProp 𝕄 :=
  iprop(onlyIf (u ≤ 14) iprop(dutyTok (ER (F := F)) (sendC c q (par u)) (u / 2) 0 ∗ dutyTok (ER (F := F)) (recvC (fwd q c) q (par u)) (u / 2) 0)
    ∗ onlyIf (1 ≤ u) (cred (tallyAt (recvC c q (par (u - 1))) (u - 1) N))
    ∗ onlyIf (1 ≤ u ∧ u ≤ 13) (dutyTok (ER (F := F)) (credC (bwd q c) q) 0 (u - 1))
    ∗ onlyIf (2 ≤ u ∧ u ≤ 14) iprop(cred (tallyAt (credC c q) (u - 2) 1) ∗ dutyTok (EC (F := F)) (c, q) (u - 2) ()))

theorem tok_eq (c : Dev nD) (q : Fin 8) {s : ℕ} (hs : s ≤ 14) : tok (F := F) c q s
    = iprop((dutyTok (ER (F := F)) (sendC c q (par s)) (s / 2) 0 ∗ dutyTok (ER (F := F)) (recvC (fwd q c) q (par s)) (s / 2) 0)
      ∗ onlyIf (1 ≤ s) (cred (tallyAt (recvC c q (par (s - 1))) (s - 1) N))
      ∗ onlyIf (1 ≤ s ∧ s ≤ 13) (dutyTok (ER (F := F)) (credC (bwd q c) q) 0 (s - 1))
      ∗ onlyIf (2 ≤ s) iprop(cred (tallyAt (credC c q) (s - 2) 1) ∗ dutyTok (EC (F := F)) (c, q) (s - 2) ())) := by
  unfold tok onlyIf
  rw [if_pos hs]
  simp only [hs, and_true]

/-- Ring `q` on device `c` before step `s`. -/
def stepSt (c : Dev nD) (q : Fin 8) (s : ℕ) : sProp 𝕄 :=
  iprop(avail (F := F) c q s ∗ avail (F := F) c q (s + 1) ∗ recvSt (F := F) c q (s - 1) ∗ recvSt (F := F) c q (s - 1 + 1)
    ∗ bigSep (Finset.Ico s 16) (tok (F := F) c q)
    ∗ atPos (EC (F := F)) (bwd q c, q) (min (s - 1) 13) ∅ 0 ∗ credSt (F := F) c q (s - 2) ∗ onlyIf (15 ≤ s) (dep (F := F) c q 13))

theorem sep_Ico {a b : ℕ} (h : a < b) (Φ : ℕ → sProp 𝕄) : bigSep (Finset.Ico a b) Φ = iprop(Φ a ∗ bigSep (Finset.Ico (a + 1) b) Φ) := by
  rw [← Finset.insert_Ico_add_one_left_eq_Ico h]
  exact bigSep_insert (by simp)

theorem step_wp (c : Dev nD) (q : Fin 8) {s : ℕ} (hs : s ≤ 14) (Q : PUnit → sProp 𝕄) :
    iprop(Ctx (F := F) μ K J ∗ stepSt (F := F) c q s ∗ OW (F := F) c (Ow c (8 * s + q.val)))
      ⊢ iprop((stepSt (F := F) c q (s + 1) ∗ OW (F := F) c (Ow c (8 * s + q.val + 1)) -∗ Q ⟨⟩)
          -∗ Wp c (stepP q c s (dots μ c q (stepIx s))) Q) := by
  have hO : AtLeast (s + 2) (Ow c (8 * s + q.val)) := Ow_atLeast c (by omega)
  have hO1 : Ow c (8 * s + q.val) = (Ow c (8 * s + q.val + 1) + dueR c q s) + dueC c q s := by rw [Ow_step c q hs, add_right_comm, add_comm (dueR c q s), add_assoc, add_comm (dueR c q s) (dueC c q s), ← add_assoc, add_right_comm]
  have e0 : s + 1 - 1 = s := rfl
  unfold stepSt
  rw [sep_Ico (show s < 16 by omega), e0, show onlyIf (F := F) (15 ≤ s) (dep (F := F) c q 13) = iprop(emp) from if_neg (by omega)]
  rw [tok_eq c q hs]
  iintro ⟨#HX, ⟨Ha0, Ha1, Hv0, Hv1, ⟨⟨⟨Htk1, Htk2⟩, Ht2, Ht3, Ht4⟩, Hts⟩, Hat, Hst, -⟩, HO⟩ Hk
  rw [Wp_bind]
  iapply (gather_wp μ K J c q hs _ hO) $$ [Hv0 Hv1 Ht2 HO]
  · isplitr; · iexact HX
    isplitl [Hv0]; · iexact Hv0
    isplitl [Hv1]; · iexact Hv1
    isplitl [Ht2] <;> iassumption
  iintro ⟨HO, Hv0, Hv1, Hd⟩
  rw [Wp_bind]
  iapply (free_wp μ K J c q hs _ hO) $$ [Ha0 Hst Ht4 HO]
  · isplitr; · iexact HX
    isplitl [Ha0]; · iexact Ha0
    isplitl [Hst]; · iexact Hst
    isplitl [Ht4]; · iexact Ht4
    iexact HO
  iintro ⟨HO, Hrd, Hst⟩
  unfold ready slotAny
  icases Hrd with ⟨Hs0, #Hs1, ⟨%f, Hs2⟩, Hn, #Hn1⟩
  rw [Wp_bind]
  iapply (loadSlot_wp c (sbuf q) (par s) f) $$ Hs2
  iintro Hs2
  rw [Wp_bind]
  iapply (storeSlot_wp c q (par s) f _) $$ Hs2
  iintro %f' ⟨%hf, Hs2⟩
  rw [Wp_bind, hO1]
  iapply (credit_wp μ K J c q hs _) $$ [Hat Ht3 Hd HO]
  · isplitr; · iexact HX
    isplitl [Hat]; · iexact Hat
    isplitl [Ht3]; · iexact Ht3
    isplitl [Hd] <;> iassumption
  iintro ⟨HO, Hat, Hd⟩
  iapply (send_wp μ K J c q hs _ f' hf) $$ [Hs2 Hn Htk1 Htk2 HO]
  · isplitr; · iexact HX
    isplitl [Hs2]; · iexact Hs2
    isplitl [Hn]; · unfold slotAny; iexact Hn
    isplitr; · iexact Hs1
    isplitr; · iexact Hn1
    isplitl [Htk1]; · iexact Htk1
    isplitl [Htk2]; · iexact Htk2
    iexact HO
  iintro ⟨HO, Hcr⟩
  iapply Hk
  isplitr [HO]
  · isplitl [Ha1]; · iexact Ha1
    isplitl [Hs0 Hcr]
    · unfold avail
      rw [if_neg (by omega), show s + 1 + 1 = s + 2 from rfl, par_add, half_add, Nat.add_sub_cancel]
      isplitl [Hs0] <;> iassumption
    isplitl [Hv0]; · iexact Hv0
    isplitl [Hv1]; · iexact Hv1
    isplitl [Hts]; · iexact Hts
    isplitl [Hat]; · iexact Hat
    isplitl [Hst] <;> iassumption
  iexact HO

end Cert.Ring8

end
-- ==== Proof.Rings.lean ====
/-
  The kernel's program in its parts: an action for every ring in turn, eight products first, the barrier with the
  neighbours, the last step, the read-out of the send slots.
-/
module

public import proofs.«01_k».proof.Proof.Steps

@[expose] public section

set_option maxRecDepth 20000

noncomputable section

namespace Cert.Ring8

open Cert.KernelIdeal Cert.KernelIdeal.Gen
open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

variable {F : FTy → Type} [FloatOps F]

local notation "𝕄" => MT nD τ sig ℕ (Elt F) ℕ UU ℕ

variable (μ : (ℓ : Loc nD τ sig) → Buf (Elt F) ℓ) (K : Dev nD × Tag → ℕ) (J : CK → ℕ)

omit [FloatOps F] in
theorem sep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## All rings in turn -/

/-- An action for every ring, each turning its ring's share `P q` into `P' q` and taking along what is common. -/
theorem rings_wp (c : Dev nD) (f : Fin 8 → KP F PUnit) (P P' : Fin 8 → sProp 𝕄) (I : ℕ → sProp 𝕄)
    (h : ∀ (q : Fin 8) (Q : PUnit → sProp 𝕄), iprop(P q ∗ I q.val) ⊢ iprop((P' q ∗ I (q.val + 1) -∗ Q ⟨⟩) -∗ Wp c (f q) Q)) (Q : PUnit → sProp 𝕄) :
    iprop(bigSep Finset.univ P ∗ I 0) ⊢ iprop((bigSep Finset.univ P' ∗ I 8 -∗ Q ⟨⟩) -∗ Wp c (rings f) Q) := by
  have h0 : ∀ Q : PUnit → sProp 𝕄, iprop(P 0 ∗ I 0) ⊢ iprop((P' 0 ∗ I 1 -∗ Q ⟨⟩) -∗ Wp c (f 0) Q) := h 0
  have h1 : ∀ Q : PUnit → sProp 𝕄, iprop(P 1 ∗ I 1) ⊢ iprop((P' 1 ∗ I 2 -∗ Q ⟨⟩) -∗ Wp c (f 1) Q) := h 1
  have h2 : ∀ Q : PUnit → sProp 𝕄, iprop(P 2 ∗ I 2) ⊢ iprop((P' 2 ∗ I 3 -∗ Q ⟨⟩) -∗ Wp c (f 2) Q) := h 2
  have h3 : ∀ Q : PUnit → sProp 𝕄, iprop(P 3 ∗ I 3) ⊢ iprop((P' 3 ∗ I 4 -∗ Q ⟨⟩) -∗ Wp c (f 3) Q) := h 3
  have h4 : ∀ Q : PUnit → sProp 𝕄, iprop(P 4 ∗ I 4) ⊢ iprop((P' 4 ∗ I 5 -∗ Q ⟨⟩) -∗ Wp c (f 4) Q) := h 4
  have h5 : ∀ Q : PUnit → sProp 𝕄, iprop(P 5 ∗ I 5) ⊢ iprop((P' 5 ∗ I 6 -∗ Q ⟨⟩) -∗ Wp c (f 5) Q) := h 5
  have h6 : ∀ Q : PUnit → sProp 𝕄, iprop(P 6 ∗ I 6) ⊢ iprop((P' 6 ∗ I 7 -∗ Q ⟨⟩) -∗ Wp c (f 6) Q) := h 6
  have h7 : ∀ Q : PUnit → sProp 𝕄, iprop(P 7 ∗ I 7) ⊢ iprop((P' 7 ∗ I 8 -∗ Q ⟨⟩) -∗ Wp c (f 7) Q) := h 7
  rw [sep_fin8, sep_fin8]
  iintro ⟨⟨H0, H1, H2, H3, H4, H5, H6, H7⟩, HI⟩ Hk
  rw [Wp_bind]
  iapply (h0 _) $$ [H0 HI]
  · isplitl [H0] <;> iassumption
  iintro ⟨H0, HI⟩
  rw [Wp_bind]
  iapply (h1 _) $$ [H1 HI]
  · isplitl [H1] <;> iassumption
  iintro ⟨H1, HI⟩
  rw [Wp_bind]
  iapply (h2 _) $$ [H2 HI]
  · isplitl [H2] <;> iassumption
  iintro ⟨H2, HI⟩
  rw [Wp_bind]
  iapply (h3 _) $$ [H3 HI]
  · isplitl [H3] <;> iassumption
  iintro ⟨H3, HI⟩
  rw [Wp_bind]
  iapply (h4 _) $$ [H4 HI]
  · isplitl [H4] <;> iassumption
  iintro ⟨H4, HI⟩
  rw [Wp_bind]
  iapply (h5 _) $$ [H5 HI]
  · isplitl [H5] <;> iassumption
  iintro ⟨H5, HI⟩
  rw [Wp_bind]
  iapply (h6 _) $$ [H6 HI]
  · isplitl [H6] <;> iassumption
  iintro ⟨H6, HI⟩
  iapply (h7 _) $$ [H7 HI]
  · isplitl [H7] <;> iassumption
  iintro ⟨H7, HI⟩
  iapply Hk
  isplitr [HI]
  · isplitl [H0]; · iexact H0
    isplitl [H1]; · iexact H1
    isplitl [H2]; · iexact H2
    isplitl [H3]; · iexact H3
    isplitl [H4]; · iexact H4
    isplitl [H5]; · iexact H5
    isplitl [H6] <;> iassumption
  iexact HI

/-- Eight values computed first, out of what is common, then an action on each for its ring. -/
theorem eight_wp (c : Dev nD) (f : Fin 8 → KP F (FVec F S256x1024 .f32)) (v : Fin 8 → FVec F S256x1024 .f32)
    (g : Fin 8 → FVec F S256x1024 .f32 → KP F PUnit) (A R : sProp 𝕄)
    (hf : ∀ (q : Fin 8) (Q : FVec F S256x1024 .f32 → sProp 𝕄), A ⊢ iprop((A -∗ Q (v q)) -∗ Wp c (f q) Q)) (Q : PUnit → sProp 𝕄)
    (hg : iprop(A ∗ R) ⊢ Wp c (rings fun q => g q (v q)) Q) :
    iprop(A ∗ R) ⊢ Wp c (eight f g) Q := by
  iintro ⟨HA, HR⟩
  rw [Wp_bind]
  iapply (hf 0 _) $$ HA
  iintro HA
  rw [Wp_bind]
  iapply (hf 1 _) $$ HA
  iintro HA
  rw [Wp_bind]
  iapply (hf 2 _) $$ HA
  iintro HA
  rw [Wp_bind]
  iapply (hf 3 _) $$ HA
  iintro HA
  rw [Wp_bind]
  iapply (hf 4 _) $$ HA
  iintro HA
  rw [Wp_bind]
  iapply (hf 5 _) $$ HA
  iintro HA
  rw [Wp_bind]
  iapply (hf 6 _) $$ HA
  iintro HA
  rw [Wp_bind]
  iapply (hf 7 _) $$ HA
  iintro HA
  iapply hg
  isplitl [HA] <;> iassumption

/-! ## Products -/

/-- The staged blocks of `x` and `w`. -/
def staged (c : Dev nD) : sProp 𝕄 :=
  iprop((((c : Thread nD τ).loc cc0_stg0_0) ↦{fullShare} xv μ c) ∗ (((c : Thread nD τ).loc cc0_stg1_0) ↦{fullShare} wv μ c))

theorem dot_wp (c : Dev nD) (q : Fin 8) (off : Fin 2 → ℕ) (h : ∀ a, off a + S256x256.size a ≤ S4096x256.size a) (Q : FVec F S256x1024 .f32 → sProp 𝕄) :
    staged (F := F) μ c ⊢ iprop((staged (F := F) μ c -∗ Q (dotAt μ c q off h)) -∗ Wp c (dotP xM wM q off h) Q) := by
  unfold staged dotAt
  iintro ⟨Hx, Hw⟩ Hk
  unfold dotP
  simp only [Prog.lift, Prog.bind_op, Prog.bind_ret, Prog.pure_eq_ret]
  iapply (wp_load_rect 𝒱₀ (c : Thread nD τ) none Set.univ (m := xM) (r := Rect.unit (s := S4096x256) off S256x256.size h) (Finset.subset_univ _)) $$ Hx
  iintro Hx
  iapply (wp_load_rect 𝒱₀ (c : Thread nD τ) none Set.univ (m := wM) (r := Rect.unit (s := S256x8192) ![0, col q] S256x1024.size (col_inb q)) (Finset.subset_univ _)) $$ Hw
  iintro Hw
  rw [wp_ret]; imodintro
  iapply Hk
  isplitl [Hx] <;> iassumption

/-! ## The barrier -/

/-- Both receive slots of ring `q` on device `c`. -/
def bothSlots (c : Dev nD) (q : Fin 8) : sProp 𝕄 := iprop(slotAny (F := F) c (rbuf q) 0 ∗ slotAny (F := F) c (rbuf q) 1)

theorem fwd_left {c : Dev nD} {q : Fin 8} (h : q.val % 2 = 0) : fwd q (left c) = c := by revert c q; decide
theorem fwd_right {c : Dev nD} {q : Fin 8} (h : q.val % 2 = 1) : fwd q (right c) = c := by revert c q; decide

theorem bar_give (c : Dev nD) : bigSep Finset.univ (bothSlots (F := F) c) ⊢ iprop(barPay (F := F) (left c) 0 ∗ barPay (F := F) (right c) 1) := by
  unfold barPay
  rw [← bigSep_sep']
  have hq (q : Fin 8) : bothSlots (F := F) c q ⊢ iprop(
      (if q.val % 2 = 0 then iprop(slotAny (F := F) (fwd q (left c)) (rbuf q) 0 ∗ slotAny (F := F) (fwd q (left c)) (rbuf q) 1) else iprop(emp))
      ∗ (if q.val % 2 = 1 then iprop(slotAny (F := F) (fwd q (right c)) (rbuf q) 0 ∗ slotAny (F := F) (fwd q (right c)) (rbuf q) 1) else iprop(emp))) := by
    unfold bothSlots
    rcases Nat.mod_two_eq_zero_or_one q.val with h | h
    · rw [if_pos h, if_neg (by omega), fwd_left h]
      iintro H; isplitl; · iexact H
      iempintro
    · rw [if_neg (by omega), if_pos h, fwd_right h]
      iintro H; isplitr; · iempintro
      iexact H
  exact bigSep_mono fun q _ => hq q

theorem bar_take (c : Dev nD) : iprop(barPay (F := F) c 0 ∗ barPay (F := F) c 1) ⊢ bigSep Finset.univ fun q => bothSlots (F := F) (fwd q c) q := by
  unfold barPay
  rw [← bigSep_sep']
  have hq (q : Fin 8) : iprop(
      (if q.val % 2 = 0 then iprop(slotAny (F := F) (fwd q c) (rbuf q) 0 ∗ slotAny (F := F) (fwd q c) (rbuf q) 1) else iprop(emp))
      ∗ (if q.val % 2 = 1 then iprop(slotAny (F := F) (fwd q c) (rbuf q) 0 ∗ slotAny (F := F) (fwd q c) (rbuf q) 1) else iprop(emp)))
      ⊢ bothSlots (F := F) (fwd q c) q := by
    unfold bothSlots
    rcases Nat.mod_two_eq_zero_or_one q.val with h | h
    · rw [if_pos h, if_neg (by omega)]
      iintro ⟨H, -⟩; iexact H
    · rw [if_neg (by omega), if_pos h]
      iintro ⟨-, H⟩; iexact H
  exact bigSep_mono fun q _ => hq q

theorem barrier_wp (c : Dev nD) (Q : PUnit → sProp 𝕄) :
    iprop(Ctx (F := F) μ K J ∗ dutyTok (ER (F := F)) (barC (left c)) 0 0 ∗ dutyTok (ER (F := F)) (barC (right c)) 0 1
        ∗ atPos (ER (F := F)) (barC c) 0 ∅ 0 ∗ cred (tallyAt (barC c) 0 2) ∗ bigSep Finset.univ (bothSlots (F := F) c) ∗ OW (F := F) c (O₀ c))
      ⊢ iprop((OW (F := F) c (Ow c 0) ∗ atPos (ER (F := F)) (barC c) 1 ∅ 0 ∗ (bigSep Finset.univ fun q => bothSlots (F := F) (fwd q c) q) -∗ Q ⟨⟩)
          -∗ Wp c (barrierP c) Q) := by
  unfold OW
  iintro ⟨#HX, Ht0, Ht1, Hat, Hcr, Hs, ⟨%W, HO⟩⟩ Hk
  ihave Hs := (bar_give c) $$ Hs
  icases Hs with ⟨Hs0, Hs1⟩
  unfold barrierP
  simp only [semSignalWord, semWaitWord, Prog.lift, Prog.bind_op, Prog.bind_ret, Prog.pure_eq_ret]
  iapply (Rounds.wp_signal 𝒱₀ ER (Rd μ) (c : Thread nD τ) none (dst := (left c : Thread nD τ)) (κ := K (left c, .inl ()))
      (r := 0) (d := 0) (by rw [duties_bar]; decide) ((amount_bar μ (left c) 0 0).trans (by decide)) 0 (O₁ c) rfl) $$ [HO Ht0 Hs0]
  · isplitr; · iapply (Ctx_cell μ K J (left c, .inl ())); iexact HX
    isplitl [HO]; · iexact HO
    isplitl [Ht0]; · iexact Ht0
    isplitl [Hs0]; · rw [payload_bar]; iexact Hs0
    iapply (Ctx_reached μ K J (left c, .inl ())); iexact HX
  iintro HO
  iapply (Rounds.wp_signal 𝒱₀ ER (Rd μ) (c : Thread nD τ) none (dst := (right c : Thread nD τ)) (κ := K (right c, .inl ()))
      (r := 0) (d := 1) (by rw [duties_bar]; decide) ((amount_bar μ (right c) 0 1).trans (by decide)) 0 (Ow c 0) rfl) $$ [HO Ht1 Hs1]
  · isplitr; · iapply (Ctx_cell μ K J (right c, .inl ())); iexact HX
    isplitl [HO]; · iexact HO
    isplitl [Ht1]; · iexact Ht1
    isplitl [Hs1]; · rw [payload_bar]; iexact Hs1
    iapply (Ctx_reached μ K J (right c, .inl ())); iexact HX
  iintro HO
  iapply (Rounds.wp_wait_rest_token 𝒱₀ ER (Rd μ) (c : Thread nD τ) none (κ := K (c, .inl ()))
      (wpE_semWait_eq 𝒱₀ (c : Thread nD τ) none Set.univ) (Set.mem_univ _) 0 (O := Ow c 0) (W := W) (R := 0) (m := 0) (T := ∅)
      (by rw [expect_bar]; decide)) $$ [Hcr HO Hat]
  · isplitr; · iapply (Ctx_cell μ K J (c, .inl ())); iexact HX
    isplitl [Hcr]; · iexact Hcr
    isplitl [HO]; · iexact HO
    isplitr; · iapply (Ctx_wait_bar μ K J (Ow_atLeast c (s := 0) (Nat.zero_le _))); iexact HX
    iexact Hat
  iintro ⟨HO, Hat, -, Hpay⟩
  ihave Hp := (Entails.of_eq (rest_bar μ c)) $$ Hpay
  ihave Hp := (bar_take c) $$ Hp
  rw [wp_ret]; imodintro
  iapply Hk
  isplitl [HO]; · iexists _; iexact HO
  isplitl [Hat] <;> iassumption

/-! ## The last step -/

/-- Ring `q`'s columns of the output. -/
abbrev colR (q : Fin 8) : Rect S256x8192 := Rect.unit (s := S256x8192) ![0, col q] S256x1024.size (col_inb q)

theorem col_apart {q q' : Fin 8} (h : q ≠ q') : col q + 1024 ≤ col q' ∨ col q' + 1024 ≤ col q := by revert q q'; decide

theorem colR_disjoint {q q' : Fin 8} (h : q ≠ q') : Disjoint (oM.access (colR q)).set (oM.access (colR q')).set :=
  View.disjoint_slice_of_sep _ _ _ 1 rfl rfl (col_apart h)

/-- The output's staging buffer with the first `n` rings' columns written. -/
def outPts (c : Dev nD) (sc : F .f32) (n : ℕ) : sProp 𝕄 :=
  iprop(∃ f : Buf (Elt F) ((c : Thread nD τ).loc cc0_stg4_0),
    ⌜∀ q : Fin 8, q.val < n → (oM.access (colR q)).read (Elt F) f = outV sc (total μ c q)⌝ ∗ (((c : Thread nD τ).loc cc0_stg4_0) ↦{fullShare} f))

theorem last_wp (c : Dev nD) (sc : F .f32) (q : Fin 8) (Q : PUnit → sProp 𝕄) :
    iprop((recvSt (F := F) c q 14 ∗ cred (tallyAt (recvC c q (par 14)) 14 N)) ∗ (Ctx (F := F) μ K J ∗ OW (F := F) c 0 ∗ outPts (F := F) μ c sc q.val))
      ⊢ iprop(((recvSt (F := F) c q 16 ∗ slotAny (F := F) c (rbuf q) 0) ∗ (Ctx (F := F) μ K J ∗ OW (F := F) c 0 ∗ outPts (F := F) μ c sc (q.val + 1)) -∗ Q ⟨⟩)
          -∗ Wp c (lastP oM sc q (dotAt μ c q (k0_off3 c) (k0_off3_inb c))) Q) := by
  iintro ⟨⟨Hat, Hcr⟩, #HX, HO, Hout⟩ Hk
  rw [Wp_bind]
  iapply (waitRecv_wp μ K J c q (a := 14) (by decide) 0 (AtLeast.zero _)) $$ [Hat Hcr HO]
  · isplitr; · iexact HX
    isplitl [Hat]; · iexact Hat
    isplitl [Hcr] <;> iassumption
  iintro ⟨HO, Hat, -, Hp⟩
  unfold recvPay
  icases Hp with ⟨%f, %hf, Hp⟩
  rw [Wp_bind]
  iapply (loadSlot_wp c (rbuf q) (par 14) f) $$ Hp
  iintro Hp
  rw [hf]
  unfold outPts
  icases Hout with ⟨%g, %hg, Ho⟩
  simp only [Prog.lift, Prog.bind_op, Prog.bind_ret, Prog.pure_eq_ret]
  iapply (wp_load_rect 𝒱₀ (c : Thread nD τ) none Set.univ (m := oM) (r := colR q) (Finset.subset_univ _)) $$ Ho
  iintro Ho
  iapply (wp_store 𝒱₀ (c : Thread nD τ) none Set.univ (m := oM) (r := colR q) (Mk := Finset.univ) (Finset.subset_univ _)) $$ Ho
  iintro Ho
  rw [wp_ret]; imodintro
  iapply Hk
  isplitl [Hat Hp]
  · isplitl [Hat]; · iexact Hat
    unfold slotAny; iexists f; iexact Hp
  isplitr; · iexact HX
  isplitl [HO]; · iexact HO
  iexists _
  isplitr
  · ipureintro
    show ∀ q' : Fin 8, q'.val < q.val + 1 → (oM.access (colR q')).read (Elt F)
      ((oM.access (colR q)).write (Elt F) g (outV sc (total μ c q)) Finset.univ) = outV sc (total μ c q')
    intro q' hq
    by_cases h : q' = q
    · subst h; exact View.read_write_univ _ _
    · rw [View.read_slice_write_slice_of_disjoint _ _ _ _ _ (colR_disjoint h)]
      exact hg q' (by have : q'.val ≠ q.val := fun e => h (Fin.ext e); omega)
  iexact Ho

/-! ## The read-out of the send slots -/

theorem drain_wp (c : Dev nD) (q : Fin 8) (Q : PUnit → sProp 𝕄) :
    iprop((avail (F := F) c q 15 ∗ avail (F := F) c q 16) ∗ (Ctx (F := F) μ K J ∗ OW (F := F) c 0))
      ⊢ iprop(((atPos (ER (F := F)) (sendC c q 1) 7 ∅ 0 ∗ atPos (ER (F := F)) (sendC c q 0) 8 ∅ 0 ∗ slotAny (F := F) c (sbuf q) 0 ∗ slotAny (F := F) c (sbuf q) 1)
            ∗ (Ctx (F := F) μ K J ∗ OW (F := F) c 0) -∗ Q ⟨⟩)
          -∗ Wp c (drainP q) Q) := by
  iintro ⟨⟨H1, H0⟩, #HX, HO⟩ Hk
  rw [Wp_bind]
  iapply (waitSend_wp μ K J c q (s := 15) (by decide) (by decide) 0 (AtLeast.zero _)) $$ [H1 HO]
  · isplitr; · iexact HX
    isplitl [H1] <;> iassumption
  iintro ⟨HO, Ha1, -, Hs1⟩
  iapply (waitSend_wp μ K J c q (s := 16) (by decide) (by decide) 0 (AtLeast.zero _)) $$ [H0 HO]
  · isplitr; · iexact HX
    isplitl [H0] <;> iassumption
  iintro ⟨HO, Ha0, -, Hs0⟩
  iapply Hk
  isplitr [HO]
  · isplitl [Ha1]; · iexact Ha1
    isplitl [Ha0]; · iexact Ha0
    isplitl [Hs0]; · iexact Hs0
    iexact Hs1
  isplitr; · iexact HX
  iexact HO

end Cert.Ring8

end
-- ==== Proof.Kernel.lean ====
/-
  A device's whole run of the kernel: barrier, fifteen steps of eight rings, the last step, the read-out, and its
  semaphores given back at zero.
-/
module

public import proofs.«01_k».proof.Proof.Rings

@[expose] public section

set_option maxRecDepth 20000

noncomputable section

namespace Cert.Ring8

open Cert.KernelIdeal Cert.KernelIdeal.Gen
open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

variable {F : FTy → Type} [FloatOps F]

local notation "𝕄" => MT nD τ sig ℕ (Elt F) ℕ UU ℕ

variable (μ : (ℓ : Loc nD τ sig) → Buf (Elt F) ℓ) (K : Dev nD × Tag → ℕ) (J : CK → ℕ)

/-! ## The fifteen steps -/

/-- All rings of device `c` before step `n`. -/
def St (c : Dev nD) (n : ℕ) : sProp 𝕄 :=
  iprop((bigSep Finset.univ fun q : Fin 8 => stepSt (F := F) c q n) ∗ (Ctx (F := F) μ K J ∗ staged (F := F) μ c ∗ OW (F := F) c (Ow c (8 * n))))

theorem ring_step (c : Dev nD) {s : ℕ} (hs : s ≤ 14) (q : Fin 8) (Q : PUnit → sProp 𝕄) :
    iprop(stepSt (F := F) c q s ∗ (Ctx (F := F) μ K J ∗ staged (F := F) μ c ∗ OW (F := F) c (Ow c (8 * s + q.val))))
      ⊢ iprop((stepSt (F := F) c q (s + 1) ∗ (Ctx (F := F) μ K J ∗ staged (F := F) μ c ∗ OW (F := F) c (Ow c (8 * s + (q.val + 1)))) -∗ Q ⟨⟩)
          -∗ Wp c (stepP q c s (dots μ c q (stepIx s))) Q) := by
  iintro ⟨Hst, #HX, Hg, HO⟩ Hk
  iapply (step_wp μ K J c q hs Q) $$ [Hst HO]
  · isplitr; · iexact HX
    isplitl [Hst] <;> iassumption
  iintro ⟨Hst, HO⟩
  iapply Hk
  isplitl [Hst]; · iexact Hst
  isplitr; · iexact HX
  isplitl [Hg] <;> iassumption

theorem first_wp (c : Dev nD) (Q : PUnit → sProp 𝕄) :
    St (F := F) μ K J c 0 ⊢ iprop((St (F := F) μ K J c 1 -∗ Q ⟨⟩) -∗ Wp c (first xM wM c) Q) := by
  unfold St
  refine rings_wp c (fun q => do
      let p ← dotP xM wM q (xoff q c 0) (xoff_inb q c 0)
      stepP q c 0 p) (fun q => stepSt (F := F) c q 0) (fun q => stepSt (F := F) c q 1)
    (fun n => iprop(Ctx (F := F) μ K J ∗ staged (F := F) μ c ∗ OW (F := F) c (Ow c (8 * 0 + n)))) (fun q Q => ?_) Q
  iintro ⟨Hst, #HX, Hg, HO⟩ Hk
  rw [Wp_bind]
  iapply (dot_wp μ c q (xoff q c 0) (xoff_inb q c 0)) $$ Hg
  iintro Hg
  iapply (ring_step μ K J c (s := 0) (by decide) q Q) $$ [Hst Hg HO]
  · isplitl [Hst]; · iexact Hst
    isplitr; · iexact HX
    isplitl [Hg] <;> iassumption
  iexact Hk

theorem later_wp (c : Dev nD) (s : Fin 15) (Q : PUnit → sProp 𝕄) :
    St (F := F) μ K J c s.val ⊢ iprop((St (F := F) μ K J c (s.val + 1) -∗ Q ⟨⟩) -∗ Wp c (later xM wM c s) Q) := by
  have hix : stepIx s.val = s := Fin.ext (Nat.mod_eq_of_lt s.2)
  unfold St
  iintro ⟨Hst, #HX, Hg, HO⟩ Hk
  iapply (eight_wp c (fun q => dotP xM wM q (xoff q c s) (xoff_inb q c s)) (fun q => dots μ c q s) (fun q p => stepP q c s p)
    (staged (F := F) μ c) iprop((bigSep Finset.univ fun q : Fin 8 => stepSt (F := F) c q s.val) ∗ Ctx (F := F) μ K J ∗ OW (F := F) c (Ow c (8 * s.val))
      ∗ (iprop((bigSep Finset.univ fun q : Fin 8 => stepSt (F := F) c q (s.val + 1)) ∗ (Ctx (F := F) μ K J ∗ staged (F := F) μ c ∗ OW (F := F) c (Ow c (8 * (s.val + 1))))) -∗ Q ⟨⟩))
    (fun q Q => dot_wp μ c q (xoff q c s) (xoff_inb q c s) Q) Q ?_)
  · iintro ⟨Hg, Hst, #HX, HO, Hk⟩
    iapply (rings_wp c (fun q => stepP q c s (dots μ c q s)) (fun q => stepSt (F := F) c q s.val) (fun q => stepSt (F := F) c q (s.val + 1))
      (fun n => iprop(Ctx (F := F) μ K J ∗ staged (F := F) μ c ∗ OW (F := F) c (Ow c (8 * s.val + n))))
      (fun q Q => by
        have h := ring_step μ K J c (s := s.val) (by omega) q Q
        rw [hix] at h; exact h) Q) $$ [Hg Hst HO]
    · isplitl [Hst]; · iexact Hst
      isplitr; · iexact HX
      isplitl [Hg] <;> iassumption
    iexact Hk
  isplitl [Hg]; · iexact Hg
  isplitl [Hst]; · iexact Hst
  isplitr; · iexact HX
  isplitl [HO] <;> iassumption

theorem laters_wp (c : Dev nD) (Q : PUnit → sProp 𝕄) :
    St (F := F) μ K J c 1 ⊢ iprop((St (F := F) μ K J c 15 -∗ Q ⟨⟩) -∗ Wp c (laters xM wM c) Q) := by
  have h1 : ∀ Q : PUnit → sProp 𝕄, St (F := F) μ K J c 1 ⊢ iprop((St (F := F) μ K J c 2 -∗ Q ⟨⟩) -∗ Wp c (later xM wM c 1) Q) := later_wp μ K J c 1
  have h2 : ∀ Q : PUnit → sProp 𝕄, St (F := F) μ K J c 2 ⊢ iprop((St (F := F) μ K J c 3 -∗ Q ⟨⟩) -∗ Wp c (later xM wM c 2) Q) := later_wp μ K J c 2
  have h3 : ∀ Q : PUnit → sProp 𝕄, St (F := F) μ K J c 3 ⊢ iprop((St (F := F) μ K J c 4 -∗ Q ⟨⟩) -∗ Wp c (later xM wM c 3) Q) := later_wp μ K J c 3
  have h4 : ∀ Q : PUnit → sProp 𝕄, St (F := F) μ K J c 4 ⊢ iprop((St (F := F) μ K J c 5 -∗ Q ⟨⟩) -∗ Wp c (later xM wM c 4) Q) := later_wp μ K J c 4
  have h5 : ∀ Q : PUnit → sProp 𝕄, St (F := F) μ K J c 5 ⊢ iprop((St (F := F) μ K J c 6 -∗ Q ⟨⟩) -∗ Wp c (later xM wM c 5) Q) := later_wp μ K J c 5
  have h6 : ∀ Q : PUnit → sProp 𝕄, St (F := F) μ K J c 6 ⊢ iprop((St (F := F) μ K J c 7 -∗ Q ⟨⟩) -∗ Wp c (later xM wM c 6) Q) := later_wp μ K J c 6
  have h7 : ∀ Q : PUnit → sProp 𝕄, St (F := F) μ K J c 7 ⊢ iprop((St (F := F) μ K J c 8 -∗ Q ⟨⟩) -∗ Wp c (later xM wM c 7) Q) := later_wp μ K J c 7
  have h8 : ∀ Q : PUnit → sProp 𝕄, St (F := F) μ K J c 8 ⊢ iprop((St (F := F) μ K J c 9 -∗ Q ⟨⟩) -∗ Wp c (later xM wM c 8) Q) := later_wp μ K J c 8
  have h9 : ∀ Q : PUnit → sProp 𝕄, St (F := F) μ K J c 9 ⊢ iprop((St (F := F) μ K J c 10 -∗ Q ⟨⟩) -∗ Wp c (later xM wM c 9) Q) := later_wp μ K J c 9
  have h10 : ∀ Q : PUnit → sProp 𝕄, St (F := F) μ K J c 10 ⊢ iprop((St (F := F) μ K J c 11 -∗ Q ⟨⟩) -∗ Wp c (later xM wM c 10) Q) := later_wp μ K J c 10
  have h11 : ∀ Q : PUnit → sProp 𝕄, St (F := F) μ K J c 11 ⊢ iprop((St (F := F) μ K J c 12 -∗ Q ⟨⟩) -∗ Wp c (later xM wM c 11) Q) := later_wp μ K J c 11
  have h12 : ∀ Q : PUnit → sProp 𝕄, St (F := F) μ K J c 12 ⊢ iprop((St (F := F) μ K J c 13 -∗ Q ⟨⟩) -∗ Wp c (later xM wM c 12) Q) := later_wp μ K J c 12
  have h13 : ∀ Q : PUnit → sProp 𝕄, St (F := F) μ K J c 13 ⊢ iprop((St (F := F) μ K J c 14 -∗ Q ⟨⟩) -∗ Wp c (later xM wM c 13) Q) := later_wp μ K J c 13
  have h14 : ∀ Q : PUnit → sProp 𝕄, St (F := F) μ K J c 14 ⊢ iprop((St (F := F) μ K J c 15 -∗ Q ⟨⟩) -∗ Wp c (later xM wM c 14) Q) := later_wp μ K J c 14
  unfold laters
  iintro H Hk
  rw [Wp_bind]
  iapply (h1 _) $$ H
  iintro H
  rw [Wp_bind]
  iapply (h2 _) $$ H
  iintro H
  rw [Wp_bind]
  iapply (h3 _) $$ H
  iintro H
  rw [Wp_bind]
  iapply (h4 _) $$ H
  iintro H
  rw [Wp_bind]
  iapply (h5 _) $$ H
  iintro H
  rw [Wp_bind]
  iapply (h6 _) $$ H
  iintro H
  rw [Wp_bind]
  iapply (h7 _) $$ H
  iintro H
  rw [Wp_bind]
  iapply (h8 _) $$ H
  iintro H
  rw [Wp_bind]
  iapply (h9 _) $$ H
  iintro H
  rw [Wp_bind]
  iapply (h10 _) $$ H
  iintro H
  rw [Wp_bind]
  iapply (h11 _) $$ H
  iintro H
  rw [Wp_bind]
  iapply (h12 _) $$ H
  iintro H
  rw [Wp_bind]
  iapply (h13 _) $$ H
  iintro H
  iapply (h14 _) $$ H
  iintro H
  iapply Hk $$ H

/-! ## The scales and the result -/

abbrev aM : Memref sig .tc .smem S1 .f32 := Memref.whole cc0_stg2_0
abbrev bM : Memref sig .tc .smem S1 .f32 := Memref.whole cc0_stg3_0

/-- The two scales, as staged. -/
def av (c : Dev nD) : (cc0_stg2_0 : Ref sig .tc).ty.Contents (Elt F) := (win0_2.blk (0 : Fin 1)).view.read (Elt F) (μ ((c : Thread nD τ).loc main_arg2))
def bv (c : Dev nD) : (cc0_stg3_0 : Ref sig .tc).ty.Contents (Elt F) := (win0_3.blk (0 : Fin 1)).view.read (Elt F) (μ ((c : Thread nD τ).loc main_arg3))

/-- The only element of a scale. -/
abbrev oneR : Rect S1 := Rect.unit (s := S1) ![0] S1.size inb_S1_S1_0
abbrev oneI : oneR.shape.Idx := Shape.Idx.first (numel1_S1.symm ▸ Nat.one_pos)

/-- The product of the scales. -/
def scale (c : Dev nD) : F .f32 :=
  Scalar.mulf ((aM.access oneR).read (Elt F) (av μ c) oneI) ((bM.access oneR).read (Elt F) (bv μ c) oneI)

/-- Contents with the same reading agree under the view. -/
theorem eq_of_read {κ : Kind} {sp : Space} {s : Shape} {e : EltTy} (v : View sig κ sp s e) {f g : v.ty.Contents (Elt F)} (h : v.read (Elt F) f = v.read (Elt F) g) {i : v.ty.Idx}
    (hi : i ∈ v.set) : f i = g i := by
  obtain ⟨y, -, rfl⟩ := Finset.mem_map.mp hi
  have := congrFun h y
  rw [View.read_apply, View.read_apply] at this
  exact (cast_inj _).mp this

/-- The eight rings' columns are all. -/
theorem out_ext {f g : (cc0_stg4_0 : Ref sig .tc).ty.Contents (Elt F)}
    (h : ∀ q : Fin 8, (oM.access (colR q)).read (Elt F) f = (oM.access (colR q)).read (Elt F) g) : f = g := by
  funext i
  have hb : ∀ b : Fin 8, ∃ q : Fin 8, col q = b.val * 1024 := by decide
  have hi0 : (i (0 : Fin 2)).val < 256 := (i (0 : Fin 2)).isLt
  have hi1 : (i (1 : Fin 2)).val < 8192 := (i (1 : Fin 2)).isLt
  obtain ⟨q, hq⟩ := hb ⟨(i (1 : Fin 2)).val / 1024, by omega⟩
  refine eq_of_read (oM.access (colR q)) (h q) ?_
  rw [show (oM.access (colR q)).set = (colR q).set from View.set_slice_whole _ _]
  refine Rect.mem_set_unit.mpr fun a => ?_
  fin_cases a
  · exact ⟨Nat.zero_le _, by show (i (0 : Fin 2)).val < 0 + 256; omega⟩
  · refine ⟨?_, ?_⟩
    · show col q ≤ (i (1 : Fin 2)).val
      rw [hq]; dsimp only; omega
    · show (i (1 : Fin 2)).val < col q + 1024
      rw [hq]; dsimp only; omega

theorem out_exists (c : Dev nD) (n : ℕ) : ∃ f : (cc0_stg4_0 : Ref sig .tc).ty.Contents (Elt F),
    ∀ q : Fin 8, q.val < n → (oM.access (colR q)).read (Elt F) f = outV (scale μ c) (total μ c q) := by
  induction n with
  | zero => exact ⟨constant S256x8192 .f32 0x00000000#32, fun _ h => absurd h (Nat.not_lt_zero _)⟩
  | succ n ih =>
    obtain ⟨f, hf⟩ := ih
    by_cases hn : n < 8
    · refine ⟨(oM.access (colR ⟨n, hn⟩)).write (Elt F) f (outV (scale μ c) (total μ c ⟨n, hn⟩)) Finset.univ, fun q hq => ?_⟩
      by_cases h : q = ⟨n, hn⟩
      · subst h; exact View.read_write_univ _ _
      · rw [View.read_slice_write_slice_of_disjoint _ _ _ _ _ (colR_disjoint h)]
        exact hf q (by have : q.val ≠ n := fun e => h (Fin.ext e); omega)
    · exact ⟨f, fun q _ => hf q (by omega)⟩

/-- The result: in each ring's columns, what that ring ends with. -/
def outAt (c : Dev nD) : (cc0_stg4_0 : Ref sig .tc).ty.Contents (Elt F) := (out_exists μ c 8).choose
theorem outAt_read (c : Dev nD) (q : Fin 8) : (oM.access (colR q)).read (Elt F) (outAt μ c) = outV (scale μ c) (total μ c q) :=
  (out_exists μ c 8).choose_spec q q.isLt

theorem outPts_done (c : Dev nD) : outPts (F := F) μ c (scale μ c) 8 ⊢ ((((c : Thread nD τ).loc cc0_stg4_0) ↦{fullShare} outAt μ c) : sProp 𝕄) := by
  unfold outPts
  iintro ⟨%f, %hf, H⟩
  have e : f = outAt μ c := out_ext fun q => by rw [outAt_read]; exact hf q q.isLt
  rw [← e]
  iexact H

/-! ## A ring's beginning and end -/

/-- What ring `q` of device `c` starts from. -/
def ring0 (c : Dev nD) (q : Fin 8) : sProp 𝕄 :=
  iprop(atPos (ER (F := F)) (sendC c q 0) 0 ∅ 0 ∗ atPos (ER (F := F)) (sendC c q 1) 0 ∅ 0 ∗ recvSt (F := F) c q 0 ∗ recvSt (F := F) c q 1
    ∗ atPos (ER (F := F)) (credC c q) 0 ∅ 0 ∗ atPos (EC (F := F)) (bwd q c, q) 0 ∅ 0 ∗ bigSep (Finset.Ico 0 16) (tok (F := F) c q)
    ∗ slotAny (F := F) c (sbuf q) 0 ∗ slotAny (F := F) c (sbuf q) 1)

theorem ring_start (c : Dev nD) (q : Fin 8) : iprop(ring0 (F := F) c q ∗ bothSlots (F := F) (fwd q c) q) ⊢ stepSt (F := F) c q 0 := by
  unfold ring0 bothSlots stepSt avail credSt onlyIf
  rw [if_pos (by decide), if_pos (by decide), if_neg (by decide)]
  iintro ⟨⟨Ha0, Ha1, Hr0, Hr1, Hc, He, Ht, Hs0, Hs1⟩, Hn0, Hn1⟩
  isplitl [Ha0 Hs0 Hn0]
  · isplitl [Ha0]; · iexact Ha0
    isplitl [Hs0]; · iexact Hs0
    iexact Hn0
  isplitl [Ha1 Hs1 Hn1]
  · isplitl [Ha1]; · iexact Ha1
    isplitl [Hs1]; · iexact Hs1
    iexact Hn1
  isplitl [Hr0]; · iexact Hr0
  isplitl [Hr1]; · iexact Hr1
  isplitl [Ht]; · iexact Ht
  isplitl [He]; · iexact He
  isplitl [Hc]
  · iexists ∅
    isplitr; · ipureintro; exact ⟨Finset.empty_subset _, Nat.zero_le _⟩
    isplitl [Hc]; · iexact Hc
    rw [bigSep_empty]; iempintro
  iempintro

/-- What ring `q` of device `c` holds after its steps beside what the last step and the read-out take. -/
def kept (c : Dev nD) (q : Fin 8) : sProp 𝕄 :=
  iprop(recvSt (F := F) c q 15 ∗ credSt (F := F) c q 13 ∗ dep (F := F) c q 13)

theorem ring_split (c : Dev nD) (q : Fin 8) : stepSt (F := F) c q 15
    ⊢ iprop((recvSt (F := F) c q 14 ∗ cred (tallyAt (recvC c q (par 14)) 14 N)) ∗ (avail (F := F) c q 15 ∗ avail (F := F) c q 16) ∗ kept (F := F) c q) := by
  unfold stepSt kept
  rw [sep_Ico (show 15 < 16 by decide), show onlyIf (F := F) (15 ≤ 15) (dep (F := F) c q 13) = dep (F := F) c q 13 from if_pos le_rfl]
  unfold tok
  rw [show onlyIf (F := F) (1 ≤ 15) (cred (tallyAt (recvC c q (par (15 - 1))) (15 - 1) N)) = cred (tallyAt (recvC c q (par 14)) 14 N) from if_pos (by decide)]
  iintro ⟨Ha0, Ha1, Hr0, Hr1, ⟨⟨-, Hc, -, -⟩, -⟩, -, Hst, Hd⟩
  isplitl [Hr0 Hc]
  · isplitl [Hr0] <;> iassumption
  isplitl [Ha0 Ha1]
  · isplitl [Ha0] <;> iassumption
  isplitl [Hr1]; · iexact Hr1
  isplitl [Hst] <;> iassumption

theorem rings_split (c : Dev nD) : (bigSep Finset.univ fun q : Fin 8 => stepSt (F := F) c q 15)
    ⊢ iprop((bigSep Finset.univ fun q : Fin 8 => iprop(recvSt (F := F) c q 14 ∗ cred (tallyAt (recvC c q (par 14)) 14 N)))
      ∗ (bigSep Finset.univ fun q : Fin 8 => iprop(avail (F := F) c q 15 ∗ avail (F := F) c q 16)) ∗ bigSep Finset.univ (kept (F := F) c)) := by
  rw [← bigSep_sep', ← bigSep_sep']
  exact bigSep_mono fun q _ => ring_split c q

/-- The ring's semaphores at zero. -/
def ringSems (c : Dev nD) (q : Fin 8) : sProp 𝕄 :=
  iprop(semVal (sendC c q 0) 0 ∗ semVal (sendC c q 1) 0 ∗ semVal (recvC c q 0) 0 ∗ semVal (recvC c q 1) 0 ∗ semVal (credC c q) 0)

/-- What ring `q` ends with. -/
def ringEnd (c : Dev nD) (q : Fin 8) : sProp 𝕄 :=
  iprop(ringSems (F := F) c q ∗ (slotAny (F := F) c (sbuf q) 0 ∗ slotAny (F := F) c (sbuf q) 1) ∗ bothSlots (F := F) c q)

theorem close_cell (x : Dev nD × Tag) {R : ℕ} (h : match x.2 with | .inr (.inl (_, b)) => 15 ≤ 2 * R + b.val | .inr (.inr (.inl (_, b))) => 15 ≤ 2 * R + b.val | _ => 1 ≤ R) :
    iprop(Ctx (F := F) μ K J ∗ atPos (ER (F := F)) (cell x) R ∅ 0) ⊢ iprop(|={Set.univ}=> semVal (cell x) 0) := by
  iintro ⟨#HX, Hat⟩
  iapply (Rounds.cell_close ER (Rd μ) (Set.mem_univ (K x)) (fun h => h) (R := R) (duties_after μ x h))
  isplitr; · iapply (Ctx_cell μ K J x); iexact HX
  iexact Hat

theorem close_cred (c : Dev nD) (q : Fin 8) : iprop(Ctx (F := F) μ K J ∗ credSt (F := F) c q 13) ⊢ iprop(|={Set.univ}=> semVal (credC c q) 0) := by
  unfold credSt
  iintro ⟨#HX, ⟨%T, %hT, Hat, -⟩⟩
  have e : T = Finset.range 13 := Finset.eq_of_subset_of_card_le hT.1 (by rw [Finset.card_range]; exact hT.2)
  imod (Rounds.fupd_skip ER (Rd μ) (κ := K (c, .inr (.inr (.inr q)))) (g := credC c q) (R := 0) (m := 13) (T := T)
    (by rw [duties_cred, e]) (by rw [expect_cred]) (Set.mem_univ _)) $$ [Hat] with ⟨Hat, -⟩
  · isplitr; · iapply (Ctx_cell μ K J (c, .inr (.inr (.inr q)))); iexact HX
    iexact Hat
  iapply (close_cell μ K J (c, .inr (.inr (.inr q))) (R := 0 + 1) (by dsimp only; omega))
  isplitr; · iexact HX
  iexact Hat

theorem ring_close (c : Dev nD) (q : Fin 8) :
    iprop(Ctx (F := F) μ K J ∗ (recvSt (F := F) c q 16 ∗ slotAny (F := F) c (rbuf q) 0)
        ∗ (atPos (ER (F := F)) (sendC c q 1) 7 ∅ 0 ∗ atPos (ER (F := F)) (sendC c q 0) 8 ∅ 0 ∗ slotAny (F := F) c (sbuf q) 0 ∗ slotAny (F := F) c (sbuf q) 1)
        ∗ kept (F := F) c q)
      ⊢ iprop(|={Set.univ}=> ringEnd (F := F) c q) := by
  unfold kept dep recvSt
  iintro ⟨#HX, ⟨Hr0, Hb0⟩, ⟨Ha1, Ha0, Hs0, Hs1⟩, Hr1, Hc, Hb1, -⟩
  imod (close_cred μ K J c q) $$ [Hc] with Hc
  · isplitr; · iexact HX
    iexact Hc
  imod (close_cell μ K J (c, .inr (.inl (q, 0))) (R := 8) (by dsimp only; decide)) $$ [Hr0] with Hr0
  · isplitr; · iexact HX
    iexact Hr0
  imod (close_cell μ K J (c, .inr (.inl (q, 1))) (R := 7) (by dsimp only; decide)) $$ [Hr1] with Hr1
  · isplitr; · iexact HX
    iexact Hr1
  imod (close_cell μ K J (c, .inr (.inr (.inl (q, 0)))) (R := 8) (by dsimp only; decide)) $$ [Ha0] with Ha0
  · isplitr; · iexact HX
    iexact Ha0
  imod (close_cell μ K J (c, .inr (.inr (.inl (q, 1)))) (R := 7) (by dsimp only; decide)) $$ [Ha1] with Ha1
  · isplitr; · iexact HX
    iexact Ha1
  imodintro
  unfold ringEnd ringSems bothSlots
  isplitl [Ha0 Ha1 Hr0 Hr1 Hc]
  · isplitl [Ha0]; · iexact Ha0
    isplitl [Ha1]; · iexact Ha1
    isplitl [Hr0]; · iexact Hr0
    isplitl [Hr1]; · iexact Hr1
    iexact Hc
  isplitl [Hs0 Hs1]
  · isplitl [Hs0] <;> iassumption
  isplitl [Hb0]; · iexact Hb0
  iexact Hb1

/-! ## The whole kernel -/

/-- The staged scales. -/
def scales (c : Dev nD) : sProp 𝕄 :=
  iprop((((c : Thread nD τ).loc cc0_stg2_0) ↦{fullShare} av μ c) ∗ (((c : Thread nD τ).loc cc0_stg3_0) ↦{fullShare} bv μ c))

/-- What device `c` starts from, beside its staged blocks. -/
def dev0 (c : Dev nD) : sProp 𝕄 :=
  iprop((dutyTok (ER (F := F)) (barC (left c)) 0 0 ∗ dutyTok (ER (F := F)) (barC (right c)) 0 1 ∗ atPos (ER (F := F)) (barC c) 0 ∅ 0 ∗ cred (tallyAt (barC c) 0 2))
    ∗ bigSep Finset.univ (bothSlots (F := F) c) ∗ bigSep Finset.univ (ring0 (F := F) c))

theorem middle_wp (c : Dev nD) (k : KP F PUnit) (Q : PUnit → sProp 𝕄) :
    iprop((Ctx (F := F) μ K J ∗ dev0 (F := F) c ∗ OW (F := F) c (O₀ c)) ∗ staged (F := F) μ c)
      ⊢ iprop((St (F := F) μ K J c 15 ∗ atPos (ER (F := F)) (barC c) 1 ∅ 0 -∗ Wp c k Q)
          -∗ Wp c (do barrierP c; first xM wM c; laters xM wM c; k) Q) := by
  unfold dev0
  iintro ⟨⟨#HX, ⟨⟨Ht0, Ht1, Hat, Hcr⟩, Hs, Hr⟩, HO⟩, Hg⟩ Hk
  rw [Wp_bind]
  iapply (barrier_wp μ K J c) $$ [Ht0 Ht1 Hat Hcr Hs HO]
  · isplitr; · iexact HX
    isplitl [Ht0]; · iexact Ht0
    isplitl [Ht1]; · iexact Ht1
    isplitl [Hat]; · iexact Hat
    isplitl [Hcr]; · iexact Hcr
    isplitl [Hs] <;> iassumption
  iintro ⟨HO, Hat, Hn⟩
  rw [Wp_bind]
  iapply (first_wp μ K J c) $$ [HO Hr Hn Hg]
  · unfold St
    isplitl [Hr Hn]
    · iapply ((Entails.of_eq (bigSep_sep' Finset.univ (ring0 (F := F) c) (fun q => bothSlots (F := F) (fwd q c) q)).symm).trans (bigSep_mono fun q _ => ring_start c q))
      isplitl [Hr] <;> iassumption
    isplitr; · iexact HX
    isplitl [Hg]; · iexact Hg
    iexact HO
  iintro H
  rw [Wp_bind]
  iapply (laters_wp μ K J c) $$ H
  iintro H
  iapply Hk
  isplitl [H] <;> iassumption

theorem device_wp (c : Dev nD) (Q : Dev nD → sProp 𝕄) : Q c ⊢ Wp c (Prog.lift .deviceId) Q := by
  simp only [Prog.lift, wp_deviceId, wp_ret]
  iintro H; imodintro; iexact H

theorem smem_wp (c : Dev nD) (m : Memref sig .tc .smem S1 .f32) (r : Rect S1) (h1 : r.shape.numel = 1) (f : m.view.ty.Contents (Elt F)) (Q : F .f32 → sProp 𝕄) :
    ((m.view.loc (c : Thread nD τ)) ↦{fullShare} f : sProp 𝕄)
      ⊢ iprop((((m.view.loc (c : Thread nD τ)) ↦{fullShare} f) -∗ Q ((m.access r).read (Elt F) f (Shape.Idx.first (h1.symm ▸ Nat.one_pos))))
          -∗ Wp c (smemLoad m r h1 rfl) Q) := by
  unfold smemLoad
  iintro H Hk
  iapply (wp_smemLoadElt 𝒱₀ (c : Thread nD τ) none Set.univ (m := m) (r := r) (Finset.subset_univ _)) $$ H
  iintro H
  rw [wp_ret]; imodintro
  iapply Hk $$ H

/-- What device `c` ends with, beside its staged blocks. -/
def devEnd (c : Dev nD) : sProp 𝕄 := iprop(semVal (barC c) 0 ∗ bigSep Finset.univ (ringEnd (F := F) c))

theorem end_close (c : Dev nD) :
    iprop(Ctx (F := F) μ K J ∗ atPos (ER (F := F)) (barC c) 1 ∅ 0
        ∗ (bigSep Finset.univ fun q => iprop(recvSt (F := F) c q 16 ∗ slotAny (F := F) c (rbuf q) 0))
        ∗ (bigSep Finset.univ fun q => iprop(atPos (ER (F := F)) (sendC c q 1) 7 ∅ 0 ∗ atPos (ER (F := F)) (sendC c q 0) 8 ∅ 0 ∗ slotAny (F := F) c (sbuf q) 0 ∗ slotAny (F := F) c (sbuf q) 1))
        ∗ bigSep Finset.univ (kept (F := F) c))
      ⊢ iprop(|={Set.univ}=> devEnd (F := F) c) := by
  have hq (q : Fin 8) : iprop(Ctx (F := F) μ K J ∗ ((recvSt (F := F) c q 16 ∗ slotAny (F := F) c (rbuf q) 0)
        ∗ ((atPos (ER (F := F)) (sendC c q 1) 7 ∅ 0 ∗ atPos (ER (F := F)) (sendC c q 0) 8 ∅ 0 ∗ slotAny (F := F) c (sbuf q) 0 ∗ slotAny (F := F) c (sbuf q) 1)
        ∗ kept (F := F) c q))) ⊢ iprop(|={Set.univ}=> ringEnd (F := F) c q) := ring_close μ K J c q
  unfold devEnd
  iintro ⟨#HX, Hat, H1, H2, H3⟩
  imod (close_cell μ K J (c, .inl ()) (R := 1) (by dsimp only; omega)) $$ [Hat] with Hat
  · isplitr; · iexact HX
    iexact Hat
  ihave H := (Entails.of_eq (bigSep_sep' Finset.univ _ _).symm) $$ [H2 H3]
  · isplitl [H2]; · iexact H2
    iexact H3
  ihave H := (Entails.of_eq (bigSep_sep' Finset.univ _ _).symm) $$ [H1 H]
  · isplitl [H1]; · iexact H1
    iexact H
  imod (((sep_mono_left (BI.bigSep_of_persistent Finset.univ (Ctx (F := F) μ K J))).trans (by rw [← bigSep_sep']; exact bigSep_mono fun q _ => hq q)).trans (bigSep_fupd _ _)) $$ [H] with H
  · isplitr; · iexact HX
    iexact H
  imodintro
  isplitl [Hat]; · iexact Hat
  iexact H

set_option maxHeartbeats 400000 in
theorem kernel_wp (c : Dev nD) (Q : PUnit → sProp 𝕄) :
    iprop((Ctx (F := F) μ K J ∗ dev0 (F := F) c ∗ OW (F := F) c (O₀ c)) ∗ staged (F := F) μ c ∗ scales (F := F) μ c
        ∗ ∃ f : Buf (Elt F) ((c : Thread nD τ).loc cc0_stg4_0), (((c : Thread nD τ).loc cc0_stg4_0) ↦{fullShare} f))
      ⊢ iprop((devEnd (F := F) c ∗ OW (F := F) c 0 ∗ staged (F := F) μ c ∗ scales (F := F) μ c ∗ (((c : Thread nD τ).loc cc0_stg4_0) ↦{fullShare} outAt μ c) -∗ Q ⟨⟩)
          -∗ Wp c (kernelP xM wM aM bM oM) Q) := by
  iintro ⟨⟨#HX, Hd, HO⟩, Hg, Hsc, ⟨%f0, Hout⟩⟩ Hk
  unfold kernelP
  rw [Wp_bind]
  iapply (device_wp c)
  iapply (middle_wp μ K J c) $$ [Hd HO Hg]
  · isplitr [Hg]
    · isplitr; · iexact HX
      isplitl [Hd] <;> iassumption
    iexact Hg
  iintro ⟨HSt, Hbar⟩
  unfold St
  icases HSt with ⟨Hr, -, Hg, HO⟩
  ihave Hr := (rings_split c) $$ Hr
  icases Hr with ⟨Hr, Hav, Hkp⟩
  ihave HO := (Entails.of_eq (congrArg (OW (F := F) c) (show Ow c (8 * 15) = 0 from Ow_end c))) $$ HO
  unfold scales
  icases Hsc with ⟨Ha, Hb⟩
  rw [Wp_bind]
  iapply (smem_wp c aM oneR numel1_S1 (av μ c)) $$ Ha
  iintro Ha
  rw [Wp_bind]
  iapply (smem_wp c bM oneR numel1_S1 (bv μ c)) $$ Hb
  iintro Hb
  rw [Wp_bind]
  iapply (eight_wp c (fun q => dotP xM wM q (k0_off3 c) (k0_off3_inb c)) (fun q => dotAt μ c q (k0_off3 c) (k0_off3_inb c)) (fun q p => lastP oM (scale μ c) q p)
    (staged (F := F) μ c) iprop((bigSep Finset.univ fun q : Fin 8 => iprop(recvSt (F := F) c q 14 ∗ cred (tallyAt (recvC c q (par 14)) 14 N)))
      ∗ (Ctx (F := F) μ K J ∗ OW (F := F) c 0 ∗ outPts (F := F) μ c (scale μ c) 0)
      ∗ (staged (F := F) μ c ∗ ((bigSep Finset.univ fun q : Fin 8 => iprop(recvSt (F := F) c q 16 ∗ slotAny (F := F) c (rbuf q) 0))
          ∗ (Ctx (F := F) μ K J ∗ OW (F := F) c 0 ∗ outPts (F := F) μ c (scale μ c) 8)) -∗ Wp c (rings fun q => drainP q) Q))
    (fun q Q => dot_wp μ c q (k0_off3 c) (k0_off3_inb c) Q) _ ?_)
  · iintro ⟨Hg, Hr, HI, Hk⟩
    iapply (rings_wp c (fun q => lastP oM (scale μ c) q (dotAt μ c q (k0_off3 c) (k0_off3_inb c)))
      (fun q => iprop(recvSt (F := F) c q 14 ∗ cred (tallyAt (recvC c q (par 14)) 14 N))) (fun q => iprop(recvSt (F := F) c q 16 ∗ slotAny (F := F) c (rbuf q) 0))
      (fun n => iprop(Ctx (F := F) μ K J ∗ OW (F := F) c 0 ∗ outPts (F := F) μ c (scale μ c) n)) (fun q Q => last_wp μ K J c (scale μ c) q Q) _) $$ [Hr HI]
    · isplitl [Hr] <;> iassumption
    iintro H
    iapply Hk
    isplitl [Hg] <;> iassumption
  isplitl [Hg]; · iexact Hg
  isplitl [Hr]; · iexact Hr
  isplitl [HO Hout]
  · isplitr; · iexact HX
    isplitl [HO]; · iexact HO
    unfold outPts
    iexists f0
    isplitr; · ipureintro; exact fun _ h => absurd h (Nat.not_lt_zero _)
    iexact Hout
  iintro ⟨Hg, Hr, -, HO, Hout⟩
  ihave Hout := (outPts_done μ c) $$ Hout
  rw [← Prog.bind_pure (rings fun q => drainP q), Wp_bind]
  iapply (rings_wp c (fun q => drainP q) (fun q => iprop(avail (F := F) c q 15 ∗ avail (F := F) c q 16))
      (fun q => iprop(atPos (ER (F := F)) (sendC c q 1) 7 ∅ 0 ∗ atPos (ER (F := F)) (sendC c q 0) 8 ∅ 0 ∗ slotAny (F := F) c (sbuf q) 0 ∗ slotAny (F := F) c (sbuf q) 1))
      (fun _ => iprop(Ctx (F := F) μ K J ∗ OW (F := F) c 0)) (fun q Q => drain_wp μ K J c q Q) _) $$ [Hav HO]
  · isplitl [Hav]; · iexact Hav
    isplitr; · iexact HX
    iexact HO
  iintro ⟨Hs, -, HO⟩
  simp only [Prog.pure_eq_ret, wp_ret]
  imod (end_close μ K J c) $$ [Hbar Hr Hs Hkp] with He
  · isplitr; · iexact HX
    isplitl [Hbar]; · iexact Hbar
    isplitl [Hr]; · iexact Hr
    isplitl [Hs] <;> iassumption
  imodintro
  iapply Hk
  isplitl [He]; · iexact He
  isplitl [HO]; · iexact HO
  isplitl [Hg]; · iexact Hg
  isplitr [Hout]
  · isplitl [Ha]; · iexact Ha
    iexact Hb
  iexact Hout

end Cert.Ring8

end
-- ==== Proof.Fund.lean ====
/-
  What the launch gives, sorted to the devices: the cells' invariants, the positions, the tokens of the duties each
  device pays, the credits for what it is owed.
-/
module

public import proofs.«01_k».proof.Proof.Kernel

@[expose] public section

set_option maxRecDepth 20000

noncomputable section

namespace Cert.Ring8

open Cert.KernelIdeal Cert.KernelIdeal.Gen
open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

variable {F : FTy → Type} [FloatOps F]

local notation "𝕄" => MT nD τ sig ℕ (Elt F) ℕ UU ℕ

variable (μ : (ℓ : Loc nD τ sig) → Buf (Elt F) ℓ)

/-! ## Many at once -/

/-- All below `n`. -/
def all (n : ℕ) (Φ : ℕ → sProp 𝕄) : sProp 𝕄 := bigSep Finset.univ fun i : Fin n => Φ i.val

omit [FloatOps F] in
theorem all_mono {n : ℕ} {Φ Ψ : ℕ → sProp 𝕄} (h : ∀ i, Φ i ⊢ Ψ i) : all n Φ ⊢ all n Ψ := bigSep_mono fun i _ => h i.val
omit [FloatOps F] in
theorem all_sep (n : ℕ) (Φ Ψ : ℕ → sProp 𝕄) : all n (fun i => iprop(Φ i ∗ Ψ i)) = iprop(all n Φ ∗ all n Ψ) := bigSep_sep' _ _ _

/-- A shift by `k` of the numbers below `n`. -/
abbrev shift (n k : ℕ) : Fin n ↪ ℕ := ⟨fun i => i.val + k, fun a b h => Fin.ext (Nat.add_right_cancel h)⟩

omit [FloatOps F] in
theorem sep_shift (p : ℕ → Prop) [DecidablePred p] (n k : ℕ) (h : (Finset.Ico 0 16).filter p = Finset.univ.map (shift n k)) (Φ : ℕ → sProp 𝕄) :
    bigSep (Finset.Ico 0 16) (fun u => onlyIf (p u) (Φ u)) = all n fun i => Φ (i + k) := by
  unfold onlyIf all
  have e := BI.bigSep_filter (Finset.Ico 0 16) p Φ
  rw [h, bigSep_map] at e
  exact e.symm

omit [FloatOps F] in
theorem sep_fin2 (Φ : Fin 2 → sProp 𝕄) : bigSep Finset.univ Φ = iprop(Φ 0 ∗ Φ 1) := bigSep_univ_eq_bigSepL [0, 1] (by decide) (by decide) Φ

omit [FloatOps F] in
theorem sep_five (A B C D E : sProp 𝕄) : iprop((A ∗ B) ∗ (C ∗ D) ∗ E) = iprop(C ∗ D ∗ A ∗ B ∗ E) := by
  have h1 : iprop((A ∗ B) ∗ (C ∗ D) ∗ E) ⊢ iprop(C ∗ D ∗ A ∗ B ∗ E) := by
    iintro ⟨⟨H1, H2⟩, ⟨H3, H4⟩, H5⟩
    isplitl [H3]; · iexact H3
    isplitl [H4]; · iexact H4
    isplitl [H1]; · iexact H1
    isplitl [H2]; · iexact H2
    iexact H5
  have h2 : iprop(C ∗ D ∗ A ∗ B ∗ E) ⊢ iprop((A ∗ B) ∗ (C ∗ D) ∗ E) := by
    iintro ⟨H3, H4, H1, H2, H5⟩
    isplitl [H1 H2]
    · isplitl [H1]; · iexact H1
      iexact H2
    isplitl [H3 H4]
    · isplitl [H3]; · iexact H3
      iexact H4
    iexact H5
  exact BI.Entails.antisymm h1 h2

omit [FloatOps F] in
/-- The rings' tags, ring by ring. -/
theorem rtag_split (Φ : Tag → sProp 𝕄) :
    (bigSep Finset.univ fun t => Φ (.inr t))
      = bigSep Finset.univ fun q : Fin 8 => iprop(Φ (.inr (.inr (.inl (q, 0)))) ∗ Φ (.inr (.inr (.inl (q, 1)))) ∗ Φ (.inr (.inl (q, 0))) ∗ Φ (.inr (.inl (q, 1))) ∗ Φ (.inr (.inr (.inr q)))) := by
  rw [BI.bigSep_univ_sum, BI.bigSep_univ_sum, bigSep_univ_prod, bigSep_univ_prod]
  simp only [sep_fin2, bigSep_sep']
  exact sep_five _ _ _ _ _

omit [FloatOps F] in
theorem tag_split (Φ : Tag → sProp 𝕄) :
    bigSep Finset.univ Φ = iprop(Φ (.inl ()) ∗ bigSep Finset.univ fun t => Φ (.inr t)) := by
  rw [BI.bigSep_univ_sum, Finset.univ_unique, bigSep_singleton]; rfl

omit [FloatOps F] in
/-- A ring's holdings handed one device on, or one back. -/
theorem deal_fwd (Φ : Dev nD → Fin 8 → sProp 𝕄) :
    (bigSep Finset.univ fun c => bigSep Finset.univ fun q => Φ c q) = bigSep Finset.univ fun c => bigSep Finset.univ fun q => Φ (fwd q c) q := by
  have e := bigSep_univ_equiv (⟨fun x => (fwd x.2 x.1, x.2), fun x => (bwd x.2 x.1, x.2), fun x => Prod.ext (bwd_fwd x.2 x.1) rfl, fun x => Prod.ext (fwd_bwd x.2 x.1) rfl⟩ : Dev nD × Fin 8 ≃ Dev nD × Fin 8)
    (fun x => Φ x.1 x.2)
  rw [bigSep_univ_prod, bigSep_univ_prod] at e
  exact e
omit [FloatOps F] in
theorem deal_bwd (Φ : Dev nD → Fin 8 → sProp 𝕄) :
    (bigSep Finset.univ fun c => bigSep Finset.univ fun q => Φ c q) = bigSep Finset.univ fun c => bigSep Finset.univ fun q => Φ (bwd q c) q := by
  have e := bigSep_univ_equiv (⟨fun x => (bwd x.2 x.1, x.2), fun x => (fwd x.2 x.1, x.2), fun x => Prod.ext (fwd_bwd x.2 x.1) rfl, fun x => Prod.ext (bwd_fwd x.2 x.1) rfl⟩ : Dev nD × Fin 8 ≃ Dev nD × Fin 8)
    (fun x => Φ x.1 x.2)
  rw [bigSep_univ_prod, bigSep_univ_prod] at e
  exact e

theorem left_right : ∀ c : Dev nD, left (right c) = c := by decide
theorem right_left : ∀ c : Dev nD, right (left c) = c := by decide
def turn : Dev nD ≃ Dev nD := ⟨left, right, right_left, left_right⟩

/-! ## A device's tokens and credits -/

def sendT (c : Dev nD) (q : Fin 8) (i : ℕ) : sProp 𝕄 := dutyTok (ER (F := F)) (sendC c q (par i)) (i / 2) 0
def recvT (c : Dev nD) (q : Fin 8) (i : ℕ) : sProp 𝕄 := dutyTok (ER (F := F)) (recvC c q (par i)) (i / 2) 0
def credT (c : Dev nD) (q : Fin 8) (j : ℕ) : sProp 𝕄 := dutyTok (ER (F := F)) (credC c q) 0 j
def depT (c : Dev nD) (q : Fin 8) (j : ℕ) : sProp 𝕄 := dutyTok (EC (F := F)) (c, q) j ()
def recvK (c : Dev nD) (q : Fin 8) (i : ℕ) : sProp 𝕄 := cred (tallyAt (recvC c q (par i)) i N)
def credK (c : Dev nD) (q : Fin 8) (j : ℕ) : sProp 𝕄 := cred (tallyAt (credC c q) j 1)

omit [FloatOps F] in
theorem toks_eq (c : Dev nD) (q : Fin 8) : bigSep (Finset.Ico 0 16) (tok (F := F) c q)
    = iprop((all 15 (sendT (F := F) c q) ∗ all 15 (recvT (F := F) (fwd q c) q)) ∗ all 15 (recvK (F := F) c q)
      ∗ all 13 (credT (F := F) (bwd q c) q) ∗ (all 13 (credK (F := F) c q) ∗ all 13 (depT (F := F) c q))) := by
  unfold tok
  rw [bigSep_sep', bigSep_sep', bigSep_sep',
    sep_shift (fun u => u ≤ 14) 15 0 (by decide) (fun u => iprop(dutyTok (ER (F := F)) (sendC c q (par u)) (u / 2) 0 ∗ dutyTok (ER (F := F)) (recvC (fwd q c) q (par u)) (u / 2) 0)),
    sep_shift (fun u => 1 ≤ u) 15 1 (by decide) (fun u => cred (tallyAt (recvC c q (par (u - 1))) (u - 1) N)),
    sep_shift (fun u => 1 ≤ u ∧ u ≤ 13) 13 1 (by decide) (fun u => dutyTok (ER (F := F)) (credC (bwd q c) q) 0 (u - 1)),
    sep_shift (fun u => 2 ≤ u ∧ u ≤ 14) 13 2 (by decide) (fun u => iprop(cred (tallyAt (credC c q) (u - 2) 1) ∗ dutyTok (EC (F := F)) (c, q) (u - 2) ())),
    all_sep, all_sep]
  rfl

/-! ### The launch credit -/

omit [FloatOps F] in
theorem cred_dueR (q : Fin 8) (s : ℕ) (c : Dev nD) : (Pipeline.launchCred (fun d => dueR d q s) c : sProp 𝕄) ⊢ recvK (F := F) c q s :=
  Pipeline.launchCred_tallyAt (.dma (semAt (rsems q) (par s))) (fwd q) (bwd q) (fwd_bwd q) (bwd_fwd q) s N c

omit [FloatOps F] in
theorem cred_dueC (q : Fin 8) (s : ℕ) (c : Dev nD) :
    (Pipeline.launchCred (fun d => dueC d q s) c : sProp 𝕄) ⊢ onlyIf (1 ≤ s ∧ s ≤ 13) (credK (F := F) c q (s - 1)) := by
  unfold onlyIf dueC
  split
  · exact Pipeline.launchCred_tallyAt (.reg (csem q)) (bwd q) (fwd q) (bwd_fwd q) (fwd_bwd q) (s - 1) 1 c
  · rw [Pipeline.launchCred_zero]

/-- The turns, by ring and step. -/
abbrev turnOf : Fin 8 × Fin 15 ↪ ℕ :=
  ⟨fun x => 8 * x.2.val + x.1.val, fun a b h => by dsimp only at h; exact Prod.ext (Fin.ext (by omega)) (Fin.ext (by omega))⟩

theorem turns_eq : Finset.Ico 0 120 = Finset.univ.map turnOf := by
  ext n
  simp only [Finset.mem_Ico, Finset.mem_map, Finset.mem_univ, true_and, Function.Embedding.coeFn_mk, Prod.exists]
  constructor
  · intro h; exact ⟨⟨n % 8, by omega⟩, ⟨n / 8, by omega⟩, by show 8 * (n / 8) + n % 8 = n; omega⟩
  · rintro ⟨q, s, rfl⟩; show 0 ≤ 8 * s.val + q.val ∧ 8 * s.val + q.val < 120; omega

omit [FloatOps F] in
theorem turns_sep (Φ : Fin 8 → ℕ → sProp 𝕄) : bigSep (Finset.Ico 0 120) (fun i => Φ (ringOf i) (i / 8)) = bigSep Finset.univ fun q => all 15 (Φ q) := by
  rw [turns_eq, bigSep_map, bigSep_univ_prod]
  refine bigSep_congr fun q _ => bigSep_congr fun s _ => ?_
  have h1 : ringOf (turnOf (q, s)) = q := Fin.ext (by show (8 * s.val + q.val) % 8 = q.val; omega)
  have h2 : turnOf (q, s) / 8 = s.val := by show (8 * s.val + q.val) / 8 = s.val; omega
  rw [h1, h2]

omit [FloatOps F] in
theorem all_middle (Φ : ℕ → sProp 𝕄) : all 15 (fun s => onlyIf (1 ≤ s ∧ s ≤ 13) (Φ (s - 1))) = all 13 Φ := by
  unfold onlyIf all
  have h : (Finset.univ : Finset (Fin 15)).filter (fun s => 1 ≤ s.val ∧ s.val ≤ 13)
      = (Finset.univ : Finset (Fin 13)).map ⟨fun j => (⟨j.val + 1, by omega⟩ : Fin 15), fun a b e => Fin.ext (Nat.add_right_cancel (congrArg Fin.val e))⟩ := by decide
  have e := BI.bigSep_filter (Finset.univ : Finset (Fin 15)) (fun s => 1 ≤ s.val ∧ s.val ≤ 13) (fun s => Φ (s.val - 1))
  rw [h, bigSep_map] at e
  exact e.symm

/-- What a device is owed in a ring. -/
def ringK (c : Dev nD) (q : Fin 8) : sProp 𝕄 := iprop(all 15 (recvK (F := F) c q) ∗ all 13 (credK (F := F) c q))

omit [FloatOps F] in
theorem creds (c : Dev nD) : (Pipeline.launchCred O₀ c : sProp 𝕄) ⊢ iprop(cred (tallyAt (barC c) 0 2) ∗ bigSep Finset.univ (ringK (F := F) c)) := by
  have hq (q : Fin 8) (s : ℕ) : (Pipeline.launchCred (fun d => dueR d q s + dueC d q s) c : sProp 𝕄)
      ⊢ iprop(recvK (F := F) c q s ∗ onlyIf (1 ≤ s ∧ s ≤ 13) (credK (F := F) c q (s - 1))) := by
    rw [Pipeline.launchCred_add (fun d => dueR d q s) (fun d => dueC d q s) c]
    exact BI.sep_mono (cred_dueR q s c) (cred_dueC q s c)
  have hr (q : Fin 8) : all 15 (fun s => iprop(recvK (F := F) c q s ∗ onlyIf (1 ≤ s ∧ s ≤ 13) (credK (F := F) c q (s - 1)))) = ringK (F := F) c q := by
    rw [all_sep, all_middle (credK (F := F) c q)]; rfl
  have hO : (Pipeline.launchCred (fun d => Ow d 0) c : sProp 𝕄) ⊢ bigSep Finset.univ (ringK (F := F) c) := by
    unfold Ow
    rw [Pipeline.launchCred_sum (Finset.Ico 0 120) (fun i d => dueR d (ringOf i) (i / 8) + dueC d (ringOf i) (i / 8)) c]
    refine (bigSep_mono fun i _ => hq (ringOf i) (i / 8)).trans ?_
    rw [turns_sep (fun q s => iprop(recvK (F := F) c q s ∗ onlyIf (1 ≤ s ∧ s ≤ 13) (credK (F := F) c q (s - 1)))), bigSep_congr fun q _ => hr q]
    exact BI.Entails.refl _
  have e1 : (Pipeline.launchCred O₀ c : sProp 𝕄) = iprop(Pipeline.launchCred O₁ c ∗ Pipeline.launchCred (fun d => tallyAt (barC (left d)) 0 1) c) :=
    Pipeline.launchCred_add O₁ (fun d => tallyAt (barC (left d)) 0 1) c
  have e2 : (Pipeline.launchCred O₁ c : sProp 𝕄) = iprop(Pipeline.launchCred (fun d => Ow d 0) c ∗ Pipeline.launchCred (fun d => tallyAt (barC (right d)) 0 1) c) :=
    Pipeline.launchCred_add (fun d => Ow d 0) (fun d => tallyAt (barC (right d)) 0 1) c
  rw [e1, e2]
  iintro ⟨⟨H, HR⟩, HL⟩
  ihave H := hO $$ H
  ihave HR := (Pipeline.launchCred_tallyAt (.reg barS) right left right_left left_right 0 1 c) $$ HR
  ihave HL := (Pipeline.launchCred_tallyAt (.reg barS) left right left_right right_left 0 1 c) $$ HL
  isplitl [HR HL]
  · rw [show (2 : ℕ) = 1 + 1 from rfl, ← tallyAt_add]
    iapply (cred_add _ _).2
    isplitl [HR]; · iexact HR
    iexact HL
  · iexact H

/-! ## What the launch mints -/

/-- The rings' own semaphores. -/
abbrev osem : ((Fin 8 × Fin 2) ⊕ ((Fin 8 × Fin 2) ⊕ Fin 8)) → SemLoc sig := fun t => semOf (.inr t)

theorem ownSemFacts : Pipeline.OwnSemFacts cfg0.spec osem := by decide +kernel

def ringCells : Finset (GSem nD τ sig) := Finset.univ.map ⟨cell, cell_injective⟩

abbrev TokIx : Type := Fin 2 ⊕ ((Fin 8 × Fin 15) ⊕ ((Fin 8 × Fin 15) ⊕ (Fin 8 × Fin 13)))

/-- A duty: its semaphore's tag, its round, its number. -/
def dutyOf : TokIx → Tag × ℕ × ℕ
  | .inl i => (.inl (), 0, i.val)
  | .inr (.inl (q, i)) => (.inr (.inr (.inl (q, par i.val))), i.val / 2, 0)
  | .inr (.inr (.inl (q, i))) => (.inr (.inl (q, par i.val)), i.val / 2, 0)
  | .inr (.inr (.inr (q, j))) => (.inr (.inr (.inr q)), 0, j.val)

theorem dutyOf_injective : Function.Injective dutyOf := by
  have hp {a b : ℕ} (h : par a = par b) (h' : a / 2 = b / 2) : a = b := by
    have := congrArg Fin.val h; dsimp only at this; omega
  rintro (i | ⟨q, i⟩ | ⟨q, i⟩ | ⟨q, i⟩) (j | ⟨r, j⟩ | ⟨r, j⟩ | ⟨r, j⟩) h <;>
    simp only [dutyOf, Prod.mk.injEq, Sum.inr.injEq, Sum.inl.injEq, reduceCtorEq, false_and, true_and, and_true] at h
  · rw [Fin.ext h]
  · obtain ⟨⟨rfl, h1⟩, h2⟩ := h; rw [Fin.ext (hp h1 h2)]
  · obtain ⟨⟨rfl, h1⟩, h2⟩ := h; rw [Fin.ext (hp h1 h2)]
  · obtain ⟨rfl, h2⟩ := h; rw [Fin.ext h2]

def tokOf (x : Dev nD × TokIx) : GSem nD τ sig × ℕ × ℕ := (cell (x.1, (dutyOf x.2).1), (dutyOf x.2).2)

theorem tokOf_injective : Function.Injective tokOf := by
  rintro ⟨c, t⟩ ⟨c', t'⟩ h
  have h1 := cell_injective (congrArg Prod.fst h)
  have h2 : (dutyOf t).2 = (dutyOf t').2 := congrArg (fun x : GSem nD τ sig × ℕ × ℕ => x.2) h
  obtain rfl : c = c' := congrArg Prod.fst h1
  have h3 : (dutyOf t).1 = (dutyOf t').1 := congrArg Prod.snd h1
  rw [dutyOf_injective (Prod.ext h3 h2)]

def ringToks : Finset (GSem nD τ sig × ℕ × ℕ) := Finset.univ.map ⟨tokOf, tokOf_injective⟩

def depToks : Finset (CK × ℕ × Unit) :=
  Finset.univ.map ⟨fun x : CK × Fin 13 => (x.1, x.2.val, ()), fun a b h => by
    simp only [Prod.mk.injEq, and_true] at h; exact Prod.ext h.1 (Fin.ext h.2)⟩

def uBC : UBC := ((initOf ringCells ringToks, initOf Finset.univ depToks) : UB × UC)
def u₀ : UU := (initOf (Pipeline.cells cfgs cellOf_inj) (Pipeline.launchToks cfgs cellOf_inj), uBC)

/-- A device's own cells' states, marks, positions and tokens. -/
def GB (c : Dev nD) : sProp 𝕄 :=
  iprop((bigSep Finset.univ fun t : Tag => roundState (ER (F := F)) (Rd μ) (cell (c, t)) 0)
    ∗ (bigSep Finset.univ fun t : Tag => reached (ER (F := F)) (cell (c, t)) 0)
    ∗ (bigSep Finset.univ fun t : Tag => atPos (ER (F := F)) (cell (c, t)) 0 ∅ 0)
    ∗ (bigSep Finset.univ fun j : TokIx => dutyTok (ER (F := F)) (cell (c, (dutyOf j).1)) (dutyOf j).2.1 (dutyOf j).2.2))
/-- Its rings' deposit counts, positions and tokens. -/
def GC (c : Dev nD) : sProp 𝕄 :=
  iprop((bigSep Finset.univ fun q : Fin 8 => initState (EC (F := F)) (c, q))
    ∗ (bigSep Finset.univ fun q : Fin 8 => atPos (EC (F := F)) (c, q) 0 ∅ 0)
    ∗ (bigSep Finset.univ fun q : Fin 8 => all 13 (depT (F := F) c q)))
def G (c : Dev nD) : sProp 𝕄 := iprop(GB (F := F) μ c ∗ GC (F := F) c)

theorem fund_B : BI.own (ER (F := F) (initOf ringCells ringToks)) ⊢ (|==> bigSep Finset.univ (GB (F := F) μ) : sProp 𝕄) := by
  have hX (Φ : GSem nD τ sig → sProp 𝕄) : bigSep ringCells Φ = bigSep Finset.univ fun c : Dev nD => bigSep Finset.univ fun t : Tag => Φ (cell (c, t)) := by
    unfold ringCells; rw [bigSep_map, bigSep_univ_prod]; rfl
  have hT : bigSep ringToks (fun x => (dutyTok (ER (F := F)) x.1 x.2.1 x.2.2 : sProp 𝕄))
      = bigSep Finset.univ fun c : Dev nD => bigSep Finset.univ fun j : TokIx => dutyTok (ER (F := F)) (cell (c, (dutyOf j).1)) (dutyOf j).2.1 (dutyOf j).2.2 := by
    unfold ringToks; rw [bigSep_map, bigSep_univ_prod]; rfl
  iintro HX
  imod (Rounds.fund (ER (F := F)) (Rd μ) ringCells ringToks) $$ HX with ⟨Hst, Hr, Hat, Htok⟩
  imodintro
  ihave Hst := (Entails.of_eq (hX fun g => roundState (ER (F := F)) (Rd μ) g 0)) $$ Hst
  ihave Hat := (Entails.of_eq (hX fun g => atPos (ER (F := F)) g 0 ∅ 0)) $$ Hat
  ihave Hr := (Entails.of_eq (hX fun g => reached (ER (F := F)) g 0)) $$ Hr
  ihave Htok := (Entails.of_eq hT) $$ Htok
  unfold GB; simp only [bigSep_sep']
  isplitl [Hst]; · iexact Hst
  isplitl [Hr]; · iexact Hr
  isplitl [Hat]; · iexact Hat
  iexact Htok

omit [FloatOps F] in
theorem fund_C : BI.own (EC (F := F) (initOf Finset.univ depToks)) ⊢ (|==> bigSep Finset.univ (GC (F := F)) : sProp 𝕄) := by
  have hT : bigSep depToks (fun x => (dutyTok (EC (F := F)) x.1 x.2.1 x.2.2 : sProp 𝕄))
      = bigSep Finset.univ fun c : Dev nD => bigSep Finset.univ fun q : Fin 8 => all 13 (depT (F := F) c q) := by
    unfold depToks; rw [bigSep_map, bigSep_univ_prod, bigSep_univ_prod]; rfl
  iintro HX
  imod (Rounds.fund_init (EC (F := F)) Finset.univ depToks) $$ HX with ⟨Hst, -, Hat, Htok⟩
  imodintro
  ihave Hst := (Entails.of_eq (bigSep_univ_prod fun k : CK => (initState (EC (F := F)) k : sProp 𝕄))) $$ Hst
  ihave Hat := (Entails.of_eq (bigSep_univ_prod fun k : CK => (atPos (EC (F := F)) k 0 ∅ 0 : sProp 𝕄))) $$ Hat
  ihave Htok := (Entails.of_eq hT) $$ Htok
  unfold GC; simp only [bigSep_sep']
  isplitl [Hst]; · iexact Hst
  isplitl [Hat]; · iexact Hat
  iexact Htok

omit [FloatOps F] in
theorem own_uBC : (BI.own (EBC (F := F) uBC) : sProp 𝕄) ⊢ iprop(BI.own (ER (F := F) (initOf ringCells ringToks)) ∗ BI.own (EC (F := F) (initOf Finset.univ depToks))) :=
  own_pair_emb (A := UB) (B := UC) (EBC (F := F)) _ _

theorem fund : (BI.own (EBC (F := F) uBC) : sProp 𝕄) ⊢ |==> bigSep Finset.univ (G (F := F) μ) := by
  iintro H
  ihave H := (own_uBC (F := F)) $$ H
  icases H with ⟨HB, HC⟩
  imod (fund_B μ) $$ HB with HB
  imod (fund_C (F := F)) $$ HC with HC
  imodintro
  unfold G; rw [bigSep_sep']
  isplitl [HB]; · iexact HB
  iexact HC

/-! ## The invariants -/

omit [FloatOps F] in
theorem unscopedSems0_eq (c : Dev nD) : (unscopedSems0 c : sProp 𝕄) = semVal (barC c) 0 := by
  unfold unscopedSems0; rw [bigSep_eq_bigSepL_of_eq [SemLoc.reg barS] (by decide +kernel) (by decide)]; rfl

abbrev ownSems (c : Dev nD) : sProp 𝕄 := Pipeline.ownSems0 (Ix := ℕ) (Name := ℕ) (U := UU) (Lvl := ℕ) (Val := Elt F) (τ := τ) osem c

omit [FloatOps F] in
theorem ownSems0_eq (c : Dev nD) : ownSems (F := F) c = bigSep Finset.univ (ringSems (F := F) c) :=
  rtag_split (fun t => semVal (cell (c, t)) 0)

omit [FloatOps F] in
theorem sems0 (c : Dev nD) : iprop(ownSems (F := F) c ∗ unscopedSems0 c) ⊢ (bigSep Finset.univ fun t : Tag => semVal (cell (c, t)) 0 : sProp 𝕄) := by
  rw [unscopedSems0_eq, tag_split]
  unfold ownSems Pipeline.ownSems0
  iintro ⟨H, HB⟩
  isplitl [HB]; · iexact HB
  iexact H

theorem depBody_intro (k : CK) : initState (EC (F := F)) k ⊢ (depBody (F := F) k : sProp 𝕄) := by
  unfold initState depBody
  iintro ⟨H, -⟩
  iexists 0
  isplitl [H]; · iexact H
  rw [Finset.range_zero, BI.bigSep_empty]
  iempintro

/-- What is left of a device's launch holdings once its invariants stand. -/
def kept0 (c : Dev nD) : sProp 𝕄 :=
  iprop((bigSep Finset.univ fun t : Tag => reached (ER (F := F)) (cell (c, t)) 0)
    ∗ (bigSep Finset.univ fun t : Tag => atPos (ER (F := F)) (cell (c, t)) 0 ∅ 0)
    ∗ (bigSep Finset.univ fun j : TokIx => dutyTok (ER (F := F)) (cell (c, (dutyOf j).1)) (dutyOf j).2.1 (dutyOf j).2.2)
    ∗ (bigSep Finset.univ fun q : Fin 8 => atPos (EC (F := F)) (c, q) 0 ∅ 0)
    ∗ (bigSep Finset.univ fun q : Fin 8 => all 13 (depT (F := F) c q)))

theorem core_alloc (c : Dev nD) :
    iprop(ownSems (F := F) c ∗ unscopedSems0 c ∗ G (F := F) μ c)
      ⊢ |={Set.univ}=> iprop((bigSep Finset.univ fun t : Tag => iprop(∃ κ : ℕ, cellInv (ER (F := F)) (Rd μ) κ (cell (c, t))))
          ∗ (bigSep Finset.univ fun q : Fin 8 => iprop(∃ κ : ℕ, inv κ (depBody (F := F) (c, q)))) ∗ kept0 (F := F) c) := by
  unfold G GB GC kept0
  iintro ⟨Hos, Hus, ⟨Hst, Hr, Hat, Htok⟩, Hi, He, Hd⟩
  ihave Hv := (sems0 (F := F) c) $$ [Hos Hus]
  · isplitl [Hos]; · iexact Hos
    iexact Hus
  imod (show iprop((bigSep Finset.univ fun t : Tag => semVal (cell (c, t)) 0) ∗ bigSep Finset.univ fun t : Tag => roundState (ER (F := F)) (Rd μ) (cell (c, t)) 0)
      ⊢ (|={Set.univ}=> bigSep Finset.univ fun t : Tag => iprop(∃ κ : ℕ, cellInv (ER (F := F)) (Rd μ) κ (cell (c, t))) : sProp 𝕄) from by
        rw [← bigSep_sep']
        exact (bigSep_mono fun t _ => (Rounds.body_intro (ER (F := F)) (Rd μ) (cell (c, t))).trans inv_alloc).trans (bigSep_fupd _ _)) $$ [Hv Hst] with Hinv
  · isplitl [Hv]; · iexact Hv
    iexact Hst
  imod (show (bigSep Finset.univ fun q : Fin 8 => initState (EC (F := F)) (c, q))
      ⊢ (|={Set.univ}=> bigSep Finset.univ fun q : Fin 8 => iprop(∃ κ : ℕ, inv κ (depBody (F := F) (c, q))) : sProp 𝕄) from
        (bigSep_mono fun q _ => (depBody_intro (F := F) (c, q)).trans inv_alloc).trans (bigSep_fupd _ _)) $$ Hi with Hdi
  imodintro
  isplitl [Hinv]; · iexact Hinv
  isplitl [Hdi]; · iexact Hdi
  isplitl [Hr]; · iexact Hr
  isplitl [Hat]; · iexact Hat
  isplitl [Htok]; · iexact Htok
  isplitl [He]; · iexact He
  iexact Hd

/-! ## The dealing -/

/-- What a device starts a ring with, beside its slots and credits. -/
def ringG (c : Dev nD) (q : Fin 8) : sProp 𝕄 :=
  iprop((atPos (ER (F := F)) (sendC c q 0) 0 ∅ 0 ∗ atPos (ER (F := F)) (sendC c q 1) 0 ∅ 0 ∗ atPos (ER (F := F)) (recvC c q 0) 0 ∅ 0
      ∗ atPos (ER (F := F)) (recvC c q 1) 0 ∅ 0 ∗ atPos (ER (F := F)) (credC c q) 0 ∅ 0)
    ∗ atPos (EC (F := F)) (bwd q c, q) 0 ∅ 0 ∗ all 15 (sendT (F := F) c q) ∗ all 15 (recvT (F := F) (fwd q c) q)
    ∗ all 13 (credT (F := F) (bwd q c) q) ∗ all 13 (depT (F := F) c q))

/-- What a device starts with, beside its slots and credits. -/
def devG (c : Dev nD) : sProp 𝕄 :=
  iprop(dutyTok (ER (F := F)) (barC (left c)) 0 0 ∗ dutyTok (ER (F := F)) (barC (right c)) 0 1 ∗ atPos (ER (F := F)) (barC c) 0 ∅ 0
    ∗ bigSep Finset.univ (ringG (F := F) c))

omit [FloatOps F] in
theorem tokIx_split (c : Dev nD) :
    (bigSep Finset.univ fun j : TokIx => (dutyTok (ER (F := F)) (cell (c, (dutyOf j).1)) (dutyOf j).2.1 (dutyOf j).2.2 : sProp 𝕄))
      = iprop((dutyTok (ER (F := F)) (barC c) 0 0 ∗ dutyTok (ER (F := F)) (barC c) 0 1)
        ∗ (bigSep Finset.univ fun q : Fin 8 => all 15 (sendT (F := F) c q)) ∗ (bigSep Finset.univ fun q : Fin 8 => all 15 (recvT (F := F) c q))
        ∗ (bigSep Finset.univ fun q : Fin 8 => all 13 (credT (F := F) c q))) := by
  rw [BI.bigSep_univ_sum, BI.bigSep_univ_sum, BI.bigSep_univ_sum, bigSep_univ_prod, bigSep_univ_prod, bigSep_univ_prod, sep_fin2]
  rfl

omit [FloatOps F] in
theorem dealing :
    iprop((bigSep Finset.univ fun c : Dev nD => bigSep Finset.univ fun t : Tag => atPos (ER (F := F)) (cell (c, t)) 0 ∅ 0)
      ∗ (bigSep Finset.univ fun c : Dev nD => bigSep Finset.univ fun j : TokIx => dutyTok (ER (F := F)) (cell (c, (dutyOf j).1)) (dutyOf j).2.1 (dutyOf j).2.2)
      ∗ (bigSep Finset.univ fun c : Dev nD => bigSep Finset.univ fun q : Fin 8 => atPos (EC (F := F)) (c, q) 0 ∅ 0)
      ∗ (bigSep Finset.univ fun c : Dev nD => bigSep Finset.univ fun q : Fin 8 => all 13 (depT (F := F) c q)))
      ⊢ bigSep Finset.univ (devG (F := F)) := by
  have hp (c : Dev nD) : (bigSep Finset.univ fun t : Tag => (atPos (ER (F := F)) (cell (c, t)) 0 ∅ 0 : sProp 𝕄))
      = iprop(atPos (ER (F := F)) (barC c) 0 ∅ 0 ∗ bigSep Finset.univ fun q : Fin 8 =>
        iprop(atPos (ER (F := F)) (sendC c q 0) 0 ∅ 0 ∗ atPos (ER (F := F)) (sendC c q 1) 0 ∅ 0 ∗ atPos (ER (F := F)) (recvC c q 0) 0 ∅ 0
          ∗ atPos (ER (F := F)) (recvC c q 1) 0 ∅ 0 ∗ atPos (ER (F := F)) (credC c q) 0 ∅ 0)) := by
    rw [tag_split, rtag_split (fun t => (atPos (ER (F := F)) (cell (c, t)) 0 ∅ 0 : sProp 𝕄))]
    rfl
  rw [bigSep_congr fun c _ => hp c, bigSep_congr fun c _ => tokIx_split c,
    deal_bwd (fun c q => (atPos (EC (F := F)) (c, q) 0 ∅ 0 : sProp 𝕄))]
  unfold devG ringG
  simp only [bigSep_sep']
  rw [deal_fwd (fun c q => all 15 (recvT (F := F) c q)), deal_bwd (fun c q => all 13 (credT (F := F) c q)),
    bigSep_univ_equiv turn (fun c : Dev nD => (dutyTok (ER (F := F)) (barC c) 0 0 : sProp 𝕄)),
    bigSep_univ_equiv turn.symm (fun c : Dev nD => (dutyTok (ER (F := F)) (barC c) 0 1 : sProp 𝕄))]
  iintro ⟨⟨Hb, Hp⟩, ⟨⟨Ht0, Ht1⟩, Hs, Hr, Hc⟩, He, Hd⟩
  isplitl [Ht0]; · iexact Ht0
  isplitl [Ht1]; · iexact Ht1
  isplitl [Hb]; · iexact Hb
  isplitl [Hp]; · iexact Hp
  isplitl [He]; · iexact He
  isplitl [Hs]; · iexact Hs
  isplitl [Hr]; · iexact Hr
  isplitl [Hc]; · iexact Hc
  iexact Hd

/-- What every device knows, but for the levels. -/
def Recs (K : Dev nD × Tag → ℕ) (J : CK → ℕ) : sProp 𝕄 :=
  iprop((bigSep Finset.univ fun x : Dev nD × Tag => cellInv (ER (F := F)) (Rd μ) (K x) (cell x))
    ∗ (bigSep Finset.univ fun x : Dev nD × Tag => reached (ER (F := F)) (cell x) 0)
    ∗ (bigSep Finset.univ fun k : CK => inv (J k) (depBody (F := F) k)))

instance Recs_persistent (K : Dev nD × Tag → ℕ) (J : CK → ℕ) : BI.Persistent (Recs (F := F) μ K J) := by unfold Recs; infer_instance

/-- What the global step makes for a device. -/
def G' (c : Dev nD) : sProp 𝕄 := iprop(∃ K J, Recs (F := F) μ K J ∗ devG (F := F) c)

theorem regroup :
    (bigSep Finset.univ fun c : Dev nD => iprop((bigSep Finset.univ fun t : Tag => iprop(∃ κ : ℕ, cellInv (ER (F := F)) (Rd μ) κ (cell (c, t))))
          ∗ (bigSep Finset.univ fun q : Fin 8 => iprop(∃ κ : ℕ, inv κ (depBody (F := F) (c, q)))) ∗ kept0 (F := F) c) : sProp 𝕄)
      ⊢ bigSep Finset.univ (G' (F := F) μ) := by
  unfold kept0
  rw [bigSep_sep', bigSep_sep', bigSep_sep', bigSep_sep', bigSep_sep', bigSep_sep',
    ← bigSep_univ_prod (fun x : Dev nD × Tag => iprop(∃ κ : ℕ, cellInv (ER (F := F)) (Rd μ) κ (cell x))),
    ← bigSep_univ_prod (fun k : CK => iprop(∃ κ : ℕ, inv κ (depBody (F := F) k))),
    ← bigSep_univ_prod (fun x : Dev nD × Tag => (reached (ER (F := F)) (cell x) 0 : sProp 𝕄))]
  iintro ⟨HI, HD, #HR, Hat, Htok, He, Hd⟩
  ihave HK := (BI.bigSep_exists_pi Finset.univ (fun (x : Dev nD × Tag) (κ : ℕ) => (cellInv (ER (F := F)) (Rd μ) κ (cell x) : sProp 𝕄))) $$ HI
  icases HK with ⟨%K, #HI⟩
  ihave HJ := (BI.bigSep_exists_pi Finset.univ (fun (k : CK) (κ : ℕ) => (inv κ (depBody (F := F) k) : sProp 𝕄))) $$ HD
  icases HJ with ⟨%J, #HD⟩
  ihave H := (dealing (F := F)) $$ [Hat Htok He Hd]
  · isplitl [Hat]; · iexact Hat
    isplitl [Htok]; · iexact Htok
    isplitl [He]; · iexact He
    iexact Hd
  have hq (c : Dev nD) : iprop(Recs (F := F) μ K J ∗ devG (F := F) c) ⊢ G' (F := F) μ c := by
    unfold G'
    iintro H
    iexists K; iexists J
    iexact H
  iapply (show iprop(Recs (F := F) μ K J ∗ bigSep Finset.univ (devG (F := F))) ⊢ bigSep Finset.univ (G' (F := F) μ) from
    (sep_mono_left (BI.bigSep_of_persistent Finset.univ (Recs (F := F) μ K J))).trans (by rw [← bigSep_sep']; exact bigSep_mono fun c _ => hq c))
  isplitr
  · unfold Recs
    isplitr; · iexact HI
    isplitr; · iexact HR
    iexact HD
  · iexact H

theorem glob : (bigSep Finset.univ fun c => iprop(ownSems (F := F) c ∗ unscopedSems0 c ∗ G (F := F) μ c) : sProp 𝕄)
    ⊢ |={Set.univ}=> bigSep Finset.univ (G' (F := F) μ) :=
  ((bigSep_mono fun c _ => core_alloc μ c).trans (bigSep_fupd _ _)).trans (BI.fupd_mono (regroup μ))

/-- With its levels, credits and slots a device has what its run starts from. -/
theorem dev_start (c : Dev nD) (K : Dev nD × Tag → ℕ) (J : CK → ℕ) :
    iprop((Recs (F := F) μ K J ∗ devG (F := F) c) ∗ Levs (F := F) ∗ (cred (tallyAt (barC c) 0 2) ∗ bigSep Finset.univ (ringK (F := F) c))
        ∗ (bigSep Finset.univ fun q => iprop(slotAny (F := F) c (sbuf q) 0 ∗ slotAny (F := F) c (sbuf q) 1)) ∗ bigSep Finset.univ (bothSlots (F := F) c))
      ⊢ iprop(Ctx (F := F) μ K J ∗ dev0 (F := F) c) := by
  have hq (q : Fin 8) : iprop(ringG (F := F) c q ∗ ringK (F := F) c q ∗ (slotAny (F := F) c (sbuf q) 0 ∗ slotAny (F := F) c (sbuf q) 1)) ⊢ ring0 (F := F) c q := by
    unfold ringG ringK ring0 recvSt
    rw [toks_eq]
    iintro ⟨⟨⟨H1, H2, H3, H4, H5⟩, He, Hs, Hr, Hc, Hd⟩, ⟨Hk, Hl⟩, Ha, Hb⟩
    isplitl [H1]; · iexact H1
    isplitl [H2]; · iexact H2
    isplitl [H3]; · iexact H3
    isplitl [H4]; · iexact H4
    isplitl [H5]; · iexact H5
    isplitl [He]; · iexact He
    isplitl [Hs Hr Hk Hc Hl Hd]
    · isplitl [Hs Hr]
      · isplitl [Hs]; · iexact Hs
        iexact Hr
      isplitl [Hk]; · iexact Hk
      isplitl [Hc]; · iexact Hc
      isplitl [Hl]; · iexact Hl
      iexact Hd
    isplitl [Ha]; · iexact Ha
    iexact Hb
  unfold Recs devG Ctx dev0
  iintro ⟨⟨⟨#HI, #HR, #HD⟩, Ht0, Ht1, Hb, Hg⟩, #HL, ⟨Hk0, Hk⟩, Hs, Hr⟩
  isplitr
  · isplitr; · iexact HI
    isplitr; · iexact HR
    isplitr; · iexact HD
    iexact HL
  isplitl [Ht0 Ht1 Hb Hk0]
  · isplitl [Ht0]; · iexact Ht0
    isplitl [Ht1]; · iexact Ht1
    isplitl [Hb]; · iexact Hb
    iexact Hk0
  isplitl [Hr]; · iexact Hr
  iapply (show iprop(bigSep Finset.univ (ringG (F := F) c) ∗ bigSep Finset.univ (ringK (F := F) c)
      ∗ bigSep Finset.univ fun q => iprop(slotAny (F := F) c (sbuf q) 0 ∗ slotAny (F := F) c (sbuf q) 1)) ⊢ bigSep Finset.univ (ring0 (F := F) c) from by
    rw [← bigSep_sep', ← bigSep_sep']; exact bigSep_mono fun q _ => hq q)
  isplitl [Hg]; · iexact Hg
  isplitl [Hk]; · iexact Hk
  iexact Hs

end Cert.Ring8

end
-- ==== Proof.Launch.lean ====
/-
  The run of the whole machine: every device's kernel under the pipeline, launched with what the devices owe each other.
-/
module

public import proofs.«01_k».proof.Proof.Fund
public import Idealize.ShloMosaic.Lib.Pipeline.CollectiveSegs

@[expose] public section

set_option maxRecDepth 20000

noncomputable section

namespace Cert.Ring8

open Cert.KernelIdeal Cert.KernelIdeal.Gen
open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat Cfg Window BodyObligation cellOf)

variable {F : FTy → Type} [FloatOps F]

local notation "𝕄" => MT nD τ sig ℕ (Elt F) ℕ UU ℕ

variable (μ : (ℓ : Loc nD τ sig) → Buf (Elt F) ℓ)

/-! ## A buffer and its two slots -/

theorem slotR_cover : (slotR 0).set ∪ (slotR 1).set = Finset.univ := by
  ext i
  simp only [Finset.mem_union, Finset.mem_univ, iff_true]
  have h0 : (i (0 : Fin 3)).val < 2 := (i (0 : Fin 3)).isLt
  have h1 : (i (1 : Fin 3)).val < 256 := (i (1 : Fin 3)).isLt
  have h2 : (i (2 : Fin 3)).val < 1024 := (i (2 : Fin 3)).isLt
  have hm (b : Fin 2) (hb : (i (0 : Fin 3)).val = b.val) : i ∈ (slotR b).set := by
    refine Rect.mem_set_unit.mpr fun a => ?_
    fin_cases a
    · exact ⟨by show b.val ≤ (i (0 : Fin 3)).val; omega, by show (i (0 : Fin 3)).val < b.val + 1; omega⟩
    · exact ⟨Nat.zero_le _, by show (i (1 : Fin 3)).val < 0 + 256; omega⟩
    · exact ⟨Nat.zero_le _, by show (i (2 : Fin 3)).val < 0 + 1024; omega⟩
  rcases (show (i (0 : Fin 3)).val = 0 ∨ (i (0 : Fin 3)).val = 1 by omega) with h | h
  · exact Or.inl (hm 0 h)
  · exact Or.inr (hm 1 h)

theorem slots_union (m : Memref sig .tc .vmem S2x256x1024 .bf16) (hm : m.IsWhole) : (slotM m 0).view.set ∪ (slotM m 1).view.set = Finset.univ := by
  rw [← slot_set, ← slot_set]
  show (m.view.slice (slotR 0)).set ∪ (m.view.slice (slotR 1)).set = Finset.univ
  rw [View.set_slice, View.set_slice, ← Finset.map_union, slotR_cover]
  exact hm.set_eq_univ

theorem slots_disjoint (m : Memref sig .tc .vmem S2x256x1024 .bf16) : Disjoint (slotM m 0).view.set (slotM m 1).view.set := by
  rw [← slot_set, ← slot_set]
  exact View.disjoint_slice_of_sep m.view (slotR 0) (slotR 1) 0 rfl rfl (Or.inl (le_refl 1))

omit [FloatOps F] in
theorem slots_split (c : Dev nD) (m : Memref sig .tc .vmem S2x256x1024 .bf16) (hm : m.IsWhole) :
    iprop(∃ f : Buf (Elt F) (m.view.loc (c : Thread nD τ)), m.view.loc (c : Thread nD τ) ↦{fullShare} f) ⊢ iprop(slotAny (F := F) c m 0 ∗ slotAny (F := F) c m 1) := by
  unfold slotAny slotPts
  have h (f : Buf (Elt F) (m.view.loc (c : Thread nD τ))) : (m.view.loc (c : Thread nD τ) ↦{fullShare} f : sProp 𝕄)
      ⊢ iprop((m.view.loc (c : Thread nD τ) ↦[(slotM m 0).view.set]{fullShare} f) ∗ m.view.loc (c : Thread nD τ) ↦[(slotM m 1).view.set]{fullShare} f) := by
    rw [← slots_union m hm]; exact (pointsTo_union (slots_disjoint m)).1
  iintro ⟨%f, H⟩
  ihave H := (h f) $$ H
  icases H with ⟨H0, H1⟩
  isplitl [H0]
  · iexists f; iexact H0
  · iexists f; iexact H1

omit [FloatOps F] in
theorem slots_join (c : Dev nD) (m : Memref sig .tc .vmem S2x256x1024 .bf16) (hm : m.IsWhole) :
    iprop(slotAny (F := F) c m 0 ∗ slotAny (F := F) c m 1) ⊢ iprop(∃ f : Buf (Elt F) (m.view.loc (c : Thread nD τ)), m.view.loc (c : Thread nD τ) ↦{fullShare} f) := by
  unfold slotAny slotPts
  have h (f g : Buf (Elt F) (m.view.loc (c : Thread nD τ))) :
      iprop((m.view.loc (c : Thread nD τ) ↦[(slotM m 0).view.set]{fullShare} f) ∗ m.view.loc (c : Thread nD τ) ↦[(slotM m 1).view.set]{fullShare} g)
        ⊢ (m.view.loc (c : Thread nD τ) ↦{fullShare} ((slotM m 1).view.set.piecewise g f) : sProp 𝕄) := by
    rw [← slots_union m hm]; exact pointsTo_join (slots_disjoint m)
  iintro ⟨⟨%f, H0⟩, %g, H1⟩
  iexists ((slotM m 1).view.set.piecewise g f)
  iapply (h f g)
  isplitl [H0]; · iexact H0
  iexact H1

/-- A buffer whole, its contents of no account. -/
def buf (c : Dev nD) (m : Memref sig .tc .vmem S2x256x1024 .bf16) : sProp 𝕄 :=
  iprop(∃ f : Buf (Elt F) (m.view.loc (c : Thread nD τ)), m.view.loc (c : Thread nD τ) ↦{fullShare} f)

omit [FloatOps F] in
theorem sep_eight (A0 A1 A2 A3 A4 A5 A6 A7 R : sProp 𝕄) :
    iprop(A0 ∗ A1 ∗ A2 ∗ A3 ∗ A4 ∗ A5 ∗ A6 ∗ A7 ∗ R) = iprop((A0 ∗ A1 ∗ A2 ∗ A3 ∗ A4 ∗ A5 ∗ A6 ∗ A7) ∗ R) := by
  have h1 : iprop(A0 ∗ A1 ∗ A2 ∗ A3 ∗ A4 ∗ A5 ∗ A6 ∗ A7 ∗ R) ⊢ iprop((A0 ∗ A1 ∗ A2 ∗ A3 ∗ A4 ∗ A5 ∗ A6 ∗ A7) ∗ R) := by
    iintro ⟨H0, H1, H2, H3, H4, H5, H6, H7, H⟩
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · iexact H
  have h2 : iprop((A0 ∗ A1 ∗ A2 ∗ A3 ∗ A4 ∗ A5 ∗ A6 ∗ A7) ∗ R) ⊢ iprop(A0 ∗ A1 ∗ A2 ∗ A3 ∗ A4 ∗ A5 ∗ A6 ∗ A7 ∗ R) := by
    iintro ⟨⟨H0, H1, H2, H3, H4, H5, H6, H7⟩, H⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H
  exact BI.Entails.antisymm h1 h2

omit [FloatOps F] in
theorem scopedRest_eq (c : Dev nD) : (Pipeline.scopedRest cfg0.spec c : sProp 𝕄)
    = iprop((bigSep Finset.univ fun q => buf (F := F) c (sbuf q)) ∗ bigSep Finset.univ fun q => buf (F := F) c (rbuf q)) := by
  rw [scopedRest0_eq, sep_fin8, sep_fin8]
  exact sep_eight _ _ _ _ _ _ _ _ _

/-- The send slots of every ring. -/
def sendSlots (c : Dev nD) : sProp 𝕄 := bigSep Finset.univ fun q => iprop(slotAny (F := F) c (sbuf q) 0 ∗ slotAny (F := F) c (sbuf q) 1)

omit [FloatOps F] in
theorem scratch_split (c : Dev nD) : (Pipeline.scopedRest cfg0.spec c : sProp 𝕄) ⊢ iprop(sendSlots (F := F) c ∗ bigSep Finset.univ (bothSlots (F := F) c)) := by
  rw [scopedRest_eq]; unfold sendSlots bothSlots buf
  exact BI.sep_mono (bigSep_mono fun q _ => slots_split c (sbuf q) (sbuf_whole q)) (bigSep_mono fun q _ => slots_split c (rbuf q) (rbuf_whole q))
omit [FloatOps F] in
theorem scratch_join (c : Dev nD) : iprop(sendSlots (F := F) c ∗ bigSep Finset.univ (bothSlots (F := F) c)) ⊢ (Pipeline.scopedRest cfg0.spec c : sProp 𝕄) := by
  rw [scopedRest_eq]; unfold sendSlots bothSlots buf
  exact BI.sep_mono (bigSep_mono fun q _ => slots_join c (sbuf q) (sbuf_whole q)) (bigSep_mono fun q _ => slots_join c (rbuf q) (rbuf_whole q))

/-! ## The pipeline's data -/

/-- What a device's run starts from, beside its slots. -/
def start (c : Dev nD) : sProp 𝕄 :=
  iprop(G' (F := F) μ c ∗ Levs (F := F) ∗ cred (tallyAt (barC c) 0 2) ∗ bigSep Finset.univ (ringK (F := F) c))

def Φ₀ (c : Dev nD) : sProp 𝕄 := iprop(start (F := F) μ c ∗ sendSlots (F := F) c ∗ bigSep Finset.univ (bothSlots (F := F) c))

def dats (_ : Fin 1) (c : Dev nD) : Dat τ (Elt F) ℕ ℕ UU ℕ cfg0 c where
  A w := μ ((cfg0.win w).arr.view.loc (c : Thread nD τ))
  after w _ := match w with
    | ⟨0, _⟩ => xv μ c
    | ⟨1, _⟩ => wv μ c
    | ⟨2, _⟩ => av μ c
    | ⟨3, _⟩ => bv μ c
    | ⟨4, _⟩ => outAt μ c
  Φ t := match t with
    | ⟨0, _⟩ => Φ₀ (F := F) μ c
    | ⟨_ + 1, _⟩ => devEnd (F := F) c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer with its contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem fetch0 (t : Fin cfg0.N) : (cfg0.win (0 : Fin 5)).fetch t = true := by rw [fin_N0 t]; rfl
theorem fetch1 (t : Fin cfg0.N) : (cfg0.win (1 : Fin 5)).fetch t = true := by rw [fin_N0 t]; rfl
theorem fetch2 (t : Fin cfg0.N) : (cfg0.win (2 : Fin 5)).fetch t = true := by rw [fin_N0 t]; rfl
theorem fetch3 (t : Fin cfg0.N) : (cfg0.win (3 : Fin 5)).fetch t = true := by rw [fin_N0 t]; rfl

def bodyPre (c : Dev nD) : sProp 𝕄 :=
  iprop(Φ₀ (F := F) μ c ∗ (dats (F := F) μ 0 c).owesAt 0 t0_0.castSucc
    ∗ (∃ d, stg c cc0_stg0_0 ((dats (F := F) μ 0 c).before (0 : Fin 5) t0_0 d))
    ∗ (∃ d, stg c cc0_stg1_0 ((dats (F := F) μ 0 c).before (1 : Fin 5) t0_0 d))
    ∗ (∃ d, stg c cc0_stg2_0 ((dats (F := F) μ 0 c).before (2 : Fin 5) t0_0 d))
    ∗ (∃ d, stg c cc0_stg3_0 ((dats (F := F) μ 0 c).before (3 : Fin 5) t0_0 d))
    ∗ (∃ d, stg c cc0_stg4_0 ((dats (F := F) μ 0 c).before (4 : Fin 5) t0_0 d)))

def bodyPost (c : Dev nD) : sProp 𝕄 :=
  iprop(devEnd (F := F) c ∗ (dats (F := F) μ 0 c).owesAt 0 t0_0.succ
    ∗ stg c cc0_stg0_0 (xv μ c) ∗ stg c cc0_stg1_0 (wv μ c) ∗ stg c cc0_stg2_0 (av μ c) ∗ stg c cc0_stg3_0 (bv μ c) ∗ stg c cc0_stg4_0 (outAt μ c))

theorem body_wp (c : Dev nD) : bodyPre (F := F) μ c ⊢ Wp c (kernelP xM wM aM bM oM) (fun _ => bodyPost (F := F) μ c) := by
  unfold bodyPre Φ₀ start G'
  iintro ⟨⟨⟨⟨%K, %J, Hg⟩, HL, HK⟩, Hs, Hr⟩, Ho, ⟨%d0, %g0, %hg0, Hx⟩, ⟨%d1, %g1, %hg1, Hw⟩, ⟨%d2, %g2, %hg2, Ha⟩, ⟨%d3, %g3, %hg3, Hb⟩, ⟨%d4, %g4, %hg4, Hout⟩⟩
  have h0 : g0 = xv μ c := by rw [hg0]; unfold Dat.before; rw [if_pos (fetch0 t0_0)]; rfl
  have h1 : g1 = wv μ c := by rw [hg1]; unfold Dat.before; rw [if_pos (fetch1 t0_0)]; rfl
  have h2 : g2 = av μ c := by rw [hg2]; unfold Dat.before; rw [if_pos (fetch2 t0_0)]; rfl
  have h3 : g3 = bv μ c := by rw [hg3]; unfold Dat.before; rw [if_pos (fetch3 t0_0)]; rfl
  subst h0 h1 h2 h3
  unfold Dat.owesAt Pipeline.owesWithin
  icases Ho with ⟨%W, %hW, HO⟩
  ihave H := (dev_start μ c K J) $$ [Hg HL HK Hs Hr]
  · isplitl [Hg]; · iexact Hg
    isplitl [HL]; · iexact HL
    isplitl [HK]; · iexact HK
    isplitl [Hs]; · unfold sendSlots; iexact Hs
    iexact Hr
  icases H with ⟨HX, Hd⟩
  iapply (kernel_wp μ K J c) $$ [HX Hd HO Hx Hw Ha Hb Hout]
  · isplitl [HX Hd HO]
    · isplitl [HX]; · iexact HX
      isplitl [Hd]; · iexact Hd
      unfold OW; iexists W; iexact HO
    isplitl [Hx Hw]
    · unfold staged
      isplitl [Hx]; · iexact Hx
      iexact Hw
    isplitl [Ha Hb]
    · unfold scales
      isplitl [Ha]; · iexact Ha
      iexact Hb
    iexists g4; iexact Hout
  unfold OW staged scales bodyPost
  iintro ⟨He, ⟨%W', HO⟩, ⟨Hx, Hw⟩, ⟨Ha, Hb⟩, Hout⟩
  isplitl [He]; · iexact He
  isplitl [HO]
  · unfold Dat.owesAt Pipeline.owesWithin
    iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Ha]
  · iexists _; isplitr; · (ipureintro; rfl)
    iexact Ha
  isplitl [Hb]
  · iexists _; isplitr; · (ipureintro; rfl)
    iexact Hb
  iexists _; isplitr; · (ipureintro; rfl)
  iexact Hout

theorem body_run : bodyAt0 (F := F) t0_0 = kernelP xM wM aM bM oM := by
  have h0 : (cfg0.win (0 : Fin 5)).stage (cfg0.slots t0_0 (0 : Fin 5)) = xM := rfl
  have h1 : (cfg0.win (1 : Fin 5)).stage (cfg0.slots t0_0 (1 : Fin 5)) = wM := rfl
  have h2 : (cfg0.win (2 : Fin 5)).stage (cfg0.slots t0_0 (2 : Fin 5)) = aM := rfl
  have h3 : (cfg0.win (3 : Fin 5)).stage (cfg0.slots t0_0 (3 : Fin 5)) = bM := rfl
  have h4 : (cfg0.win (4 : Fin 5)).stage (cfg0.slots t0_0 (4 : Fin 5)) = oM := rfl
  rw [body_eq]

set_option maxRecDepth 1000000 in
theorem body_obligation (c : Dev nD) : BodyObligation (dats (F := F) μ 0 c) (defs₀ (F := F)) 𝒱₀ 0 Set.univ := fun t => by
  rw [fin_N0 t]
  rw [bigSep_W0, bigSep_W0]
  simp only [owns_whole_eq]
  show bodyPre (F := F) μ c ⊢ Wp c (bodyAt0 (F := F) t0_0) (fun _ => bodyPost (F := F) μ c)
  rw [body_run]
  exact body_wp μ c

/-! ## The launch -/

theorem share_eq (c : Dev nD) (w : Fin cfg0.W) : (dats (F := F) μ 0 c).share w = fullShare := by unfold Dat.share; split <;> rfl

/-- The staging semaphores are none of the rings'. -/
theorem lv_stage (c : Dev nD) (w : Fin cfg0.W) (s : Fin _) (u : ℕ) : lv ((c : Thread nD τ), .dma ((cfg0.win w).sem s)) u = 0 := by
  have h : tagOf ((c : Thread nD τ), .dma ((cfg0.win w).sem s)) = none := by
    refine dif_neg ?_
    rintro ⟨t, ht⟩
    rcases t with t | t
    · exact nomatch ht
    · exact ownSemFacts.disj t w s ht
  rw [lv, h]

theorem waits (c : Dev nD) : (levAts L lv : sProp 𝕄) ⊢ Pipeline.cellsWaits cfgs (dats (F := F) μ) 0 0 c :=
  Pipeline.cellsWaits_intro cfgs (dats (F := F) μ) 0 0 c fun w s t =>
    mayWait c _ 0 _ (by decide) (by
      rw [lv_stage]
      rcases t with ⟨_ | _, ht⟩
      · exact O₀_atLeast c
      · exact AtLeast.zero _)

variable (m : (ℓ : Loc nD τ sig) → Buf (Elt F) ℓ) (ρ : Dev nD → PrngReg)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (F := F) m c)
      ⊢ |={Set.univ}=> iprop(start (F := F) m c ∗ emp) := by
  iintro ⟨-, Hlev, Hcr, -, HG⟩
  ihave Hc := (creds (F := F) c) $$ Hcr
  imodintro
  unfold start Levs
  isplitl
  · isplitl [HG]; · iexact HG
    isplitl [Hlev]; · iexact Hlev
    iexact Hc
  · iempintro

theorem phi0_intro (c : Dev nD) :
    iprop(start (F := F) m c ∗ Pipeline.prefHeld Pipeline.Prefetch.none c (fun _ => fullShare.right) (fun k => k.elim0) ∗ Pipeline.scopedRest cfg0.spec c)
      ⊢ (dats (F := F) m 0 c).Φ 0 := by
  rw [show (dats (F := F) m 0 c).Φ 0 = Φ₀ (F := F) m c from rfl]
  unfold Φ₀
  iintro ⟨Hs, -, Hr⟩
  isplitl [Hs]; · iexact Hs
  iapply (scratch_split c) $$ Hr

theorem phi1_exit (c : Dev nD) :
    (dats (F := F) m 0 c).Φ (Fin.last cfg0.N) ⊢ iprop(unscopedSems0 c ∗ ownSems (F := F) c ∗ Pipeline.scopedRest cfg0.spec c) := by
  rw [show (dats (F := F) m 0 c).Φ (Fin.last cfg0.N) = devEnd (F := F) c from rfl, ownSems0_eq, unscopedSems0_eq]
  unfold devEnd ringEnd
  simp only [bigSep_sep']
  iintro ⟨HB, Hs, Hx, Hr⟩
  isplitl [HB]; · iexact HB
  isplitl [Hs]; · iexact Hs
  iapply (scratch_join c)
  unfold sendSlots
  simp only [bigSep_sep']
  isplitl [Hx]; · iexact Hx
  iexact Hr

def finalA (c : Dev nD) (w : Fin cfg0.W) : Buf (Elt F) ((cfg0.win w).arr.view.loc (c : Thread nD τ)) := (dats (F := F) m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 1000000 in
/-- From any memory with zero counters every weakly fair execution on the sixteen devices ends, every device's arrays at
    their computed contents and every counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats (F := F) m) 0 cellOf_inj (0 : Fin 1)
    winFacts0.to₀ ownSemFacts (Pipeline.PreFacts.none _) EP defs₀ 𝒱₀ m ρ main
    (hmain := fun _ => rfl)
    (hbody := fun c => body_obligation m c) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP]; · iexact HP
      iexact HG)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

end Cert.Ring8

end
-- ==== Proof.Frames.lean ====
/-
  The kernel's frame, over any float values and at the words the printed program computes with.
-/
module

public import proofs.«01_k».proof.Defs
public import proofs.«01_k».proof.Proof.Launch
public import proofs.«01_k».proof.Proof.Gen.Kernel

@[expose] public section

set_option maxRecDepth 20000

noncomputable section

namespace Cert.Ring8

open Cert.KernelIdeal Cert.KernelIdeal.Gen
open Idealize.ShloMosaic Idealize.ShloMosaic.TcCoe Idealize.SL Idealize.SL.Sem

variable {F : FTy → Type} [FloatOps F]
variable (m : (ℓ : Loc nD τ sig) → Buf (Elt F) ℓ) (ρ : Dev nD → PrngReg)

theorem finalA_0 (c : Dev nD) : finalA m c (0 : Fin 5) = m ((c.tc : Thread nD τ).loc main_arg0) := (dats (F := F) m 0 c).arrAt_in (0 : Fin 5) rfl _
theorem finalA_1 (c : Dev nD) : finalA m c (1 : Fin 5) = m ((c.tc : Thread nD τ).loc main_arg1) := (dats (F := F) m 0 c).arrAt_in (1 : Fin 5) rfl _
theorem finalA_2 (c : Dev nD) : finalA m c (2 : Fin 5) = m ((c.tc : Thread nD τ).loc main_arg2) := (dats (F := F) m 0 c).arrAt_in (2 : Fin 5) rfl _
theorem finalA_3 (c : Dev nD) : finalA m c (3 : Fin 5) = m ((c.tc : Thread nD τ).loc main_arg3) := (dats (F := F) m 0 c).arrAt_in (3 : Fin 5) rfl _

/-- Every argument as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c (0 : Fin 5)).trans (finalA_0 m c), (h.1 c (1 : Fin 5)).trans (finalA_1 m c),
    (h.1 c (2 : Fin 5)).trans (finalA_2 m c), (h.1 c (3 : Fin 5)).trans (finalA_3 m c)⟩, h.2⟩) (run_main m ρ)

theorem frame_ideal : Cert.quiescent_KernelIdeal (hKernelIdeal := Cert.KernelIdeal.Gen.facts) := fun m ρ _ => frame m ρ

/-- The printed program is the idealized program's text, read at the words: the two frames state one proposition. -/
theorem printed_eq : Cert.quiescent_Kernel (hKernel := Cert.Kernel.Gen.facts)
    = (∀ (m : (ℓ : Loc nD τ sig) → Buf (Elt Bits) ℓ) (ρ : Dev nD → PrngReg), True →
      θ_run (defs (F := Bits)) (onTc (τ := τ) (main (F := Bits))) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.sem = fun _ => 0)) := by chain_rfl

theorem frame_printed : Cert.quiescent_Kernel (hKernel := Cert.Kernel.Gen.facts) :=
  printed_eq.mpr fun m ρ _ => frame (F := Bits) m ρ

end Cert.Ring8

end
-- ==== Proof.Values.lean ====
/-
  What the kernel computes, over the reals: each device's result as sums of products of the devices' blocks.
-/
module

public import proofs.«01_k».proof.Proof.Launch
public import Idealize.ShloMosaic.Lib.MatmulPlain
public import Idealize.ShloMosaic.Lib.ValueIdx
public import Idealize.ShloMosaic.Lib.Pipeline.Value

@[expose] public section

set_option maxRecDepth 20000

noncomputable section

namespace Cert.Ring8

open Cert.KernelIdeal Cert.KernelIdeal.Gen
open Idealize.ShloMosaic Idealize.ShloMosaic.TcCoe Idealize.ShloMosaic.ValueIdx Idealize.SL Idealize.SL.Sem

variable (m : (ℓ : Loc nD τ sig) → Buf (Elt Ideal) ℓ)

/-! ## The blocks, element by element -/

/-- Device `d`'s block of `x`, at a row and a column. -/
def xAt (d : Dev nD) (r : Fin 4096) (k : Fin 256) : EReal := m ((d.tc : Thread nD τ).loc main_arg0) (ix2 r k)
/-- Device `d`'s block of `w`. -/
def wAt (d : Dev nD) (k : Fin 256) (j : Fin 8192) : EReal := m ((d.tc : Thread nD τ).loc main_arg1) (ix2 k j)
/-- Device `d`'s part of the product's element at row `r` and column `j`. -/
def part (d : Dev nD) (r : Fin 4096) (j : Fin 8192) : EReal := ∑ k : Fin 256, xAt m d r k * wAt m d k j

theorem xv_apply (c : Dev nD) (r : Fin 4096) (k : Fin 256) : xv m c (ix2 r k) = xAt m c r k := by
  show m ((c.tc : Thread nD τ).loc main_arg0) _ = m ((c.tc : Thread nD τ).loc main_arg0) _
  congr 1
  funext a; apply Fin.ext
  match a with
  | ⟨0, _⟩ => show 0 * 4096 + 1 * r.val = r.val; omega
  | ⟨1, _⟩ => show 0 * 256 + 1 * k.val = k.val; omega

theorem wv_apply (c : Dev nD) (k : Fin 256) (j : Fin 8192) : wv m c (ix2 k j) = wAt m c k j := by
  show m ((c.tc : Thread nD τ).loc main_arg1) _ = m ((c.tc : Thread nD τ).loc main_arg1) _
  congr 1
  funext a; apply Fin.ext
  match a with
  | ⟨0, _⟩ => show 0 * 256 + 1 * k.val = k.val; omega
  | ⟨1, _⟩ => show 0 * 8192 + 1 * j.val = j.val; omega

/-! ## A chunk's product -/

theorem dot_plain : dot_S256x256_S256x1024_S256x1024_1_0_0_1_n_n = DotDims.plain 256 256 1024 := rfl

theorem col_lt (q : Fin 8) (j : Fin 1024) : col q + j.val < 8192 := by
  have := col_inb q 1
  have h : col q + 1024 ≤ 8192 := this
  omega

/-- Column `j` of ring `q`. -/
abbrev colIx (q : Fin 8) (j : Fin 1024) : Fin 8192 := ⟨col q + j.val, col_lt q j⟩
/-- Row `i` of the chunk of device `d`. -/
abbrev rowIx (d : Dev nD) (i : Fin 256) : Fin 4096 := ⟨256 * d.val + i.val, by have := d.isLt; have h : nD = 16 := rfl; omega⟩

theorem dotAt_apply (c : Dev nD) (q : Fin 8) (off : Fin 2 → Nat) (h : ∀ a, off a + S256x256.size a ≤ S4096x256.size a)
    (d : Dev nD) (hoff : off = ![256 * d.val, 0]) (i : Fin 256) (j : Fin 1024) :
    dotAt m c q off h (ix2 i j) = part m c (rowIx d i) (colIx q j) := by
  subst hoff
  unfold dotAt dotV
  rw [dot_plain]
  refine (Ideal.matmul_plain_apply _ _ _ _ i j).trans ?_
  rw [constant_apply, Ideal.ofBits_zero_f32, zero_add]
  refine Finset.sum_congr rfl fun k _ => ?_
  rw [extf_apply, extf_apply, shapeCast_self, shapeCast_self]
  refine congrArg₂ (· * ·) (Eq.trans ?_ (xv_apply m c _ k)) (Eq.trans ?_ (wv_apply m c k _))
  · show xv m c _ = xv m c _
    congr 1
    funext a; apply Fin.ext
    match a with
    | ⟨0, _⟩ => show 256 * d.val + 1 * i.val = 256 * d.val + i.val; omega
    | ⟨1, _⟩ => show 0 + 1 * k.val = k.val; omega
  · show wv m c _ = wv m c _
    congr 1
    funext a; apply Fin.ext
    match a with
    | ⟨0, _⟩ => show 0 + 1 * k.val = k.val; omega
    | ⟨1, _⟩ => show col q + 1 * j.val = col q + j.val; omega

/-! ## Round the ring -/

/-- The device whose chunk ring `q` works on, on device `c` at step `s`. -/
def dest (q : Fin 8) (s : ℕ) (c : Dev nD) : Dev nD :=
  if q.val % 2 = 0 then ⟨(c.val + 31 - s) % 16, Nat.mod_lt _ (by decide)⟩ else ⟨(c.val + s + 1) % 16, Nat.mod_lt _ (by decide)⟩

theorem xoff_dest (q : Fin 8) (c : Dev nD) (s : Fin 15) : xoff q c s = ![256 * (dest q s c).val, 0] := by
  unfold xoff dest
  split
  · exact k0_off1_eq c s
  · exact k0_off2_eq c s

theorem dest_bwd (q : Fin 8) (c : Dev nD) (s : Fin 14) : dest q s.val (bwd q c) = dest q (s.val + 1) c := by
  revert q c s; decide +kernel

theorem dest_last (q : Fin 8) (c : Dev nD) : dest q 14 (bwd q c) = c := by
  revert q c; decide +kernel

/-- An accumulation's element: the sum. -/
theorem acc_apply (p p' : FVec Ideal S256x1024 .f32) (i : Fin 256) (j : Fin 1024) : accV p (packV p') (ix2 i j) = p (ix2 i j) + p' (ix2 i j) := by
  unfold accV packV
  rw [addf_apply, extf_apply, shapeCast_shapeCast, truncf_apply]

theorem acc_sum (q : Fin 8) (i : Fin 256) (j : Fin 1024) (s : ℕ) (hs : s < 15) (c : Dev nD) :
    acc m q s c (ix2 i j) = ∑ t ∈ Finset.range (s + 1), part m ((bwd q)^[t] c) (rowIx (dest q s c) i) (colIx q j) := by
  induction s generalizing c with
  | zero =>
    rw [Finset.sum_range_one]
    exact dotAt_apply m c q _ _ (dest q 0 c) (xoff_dest q c 0) i j
  | succ s ih =>
    rw [Finset.sum_range_succ', acc, acc_apply, ih (by omega) (bwd q c), add_comm]
    refine congrArg₂ (· + ·) ?_ ?_
    · rw [dest_bwd q c ⟨s, by omega⟩]
      rfl
    · have e : stepIx (s + 1) = ⟨s + 1, hs⟩ := Fin.ext (Nat.mod_eq_of_lt hs)
      rw [e]
      exact dotAt_apply m c q _ _ (dest q (s + 1) c) (xoff_dest q c ⟨s + 1, hs⟩) i j

theorem bwd_val (q : Fin 8) (c : Dev nD) : (bwd q c).val = if q.val % 2 = 0 then (c.val + 15) % 16 else (c.val + 1) % 16 := by
  revert q c; decide +kernel

/-- Sixteen steps back round the ring meet every device once. -/
theorem iter_bijective (q : Fin 8) (c : Dev nD) : Function.Bijective fun t : Fin 16 => (bwd q)^[t.val] c := by
  refine (Finite.injective_iff_bijective).mp ?_
  have h : ∀ t t' : Fin 16, (bwd q)^[t.val] c = (bwd q)^[t'.val] c → t = t' := by
    have hb : ∀ (c : Dev nD) (t : ℕ), ((bwd q)^[t] c).val = if q.val % 2 = 0 then (c.val + 15 * t) % 16 else (c.val + t) % 16 := by
      intro c t
      induction t generalizing c with
      | zero => have := c.isLt; have hn : nD = 16 := rfl; split <;> simp <;> omega
      | succ t ih =>
        rw [Function.iterate_succ_apply, ih]
        rw [bwd_val]
        split <;> omega
    intro t t' h
    have := congrArg Fin.val h
    rw [hb, hb] at this
    apply Fin.ext
    have h1 := t.isLt; have h2 := t'.isLt
    split at this <;> omega
  exact h

/-- Every device's part, summed. -/
theorem total_apply (q : Fin 8) (c : Dev nD) (i : Fin 256) (j : Fin 1024) :
    total m c q (ix2 i j) = ∑ d : Dev nD, part m d (rowIx c i) (colIx q j) := by
  unfold total
  rw [acc_apply, acc_sum m q i j 14 (by omega), dest_last, dotAt_apply m c q _ _ c (k0_off3_eq c) i j, add_comm]
  have e := (iter_bijective q c).sum_comp fun d => part m d (rowIx c i) (colIx q j)
  refine Eq.trans ?_ ((Fin.sum_univ_eq_sum_range (fun t => part m ((bwd q)^[t] c) (rowIx c i) (colIx q j)) 16).symm.trans e)
  exact (Finset.sum_range_succ' (fun t => part m ((bwd q)^[t] c) (rowIx c i) (colIx q j)) 15).symm

/-! ## The result -/

def aAt (d : Dev nD) : EReal := m ((d.tc : Thread nD τ).loc main_arg2) (ix1 0)
def bAt (d : Dev nD) : EReal := m ((d.tc : Thread nD τ).loc main_arg3) (ix1 0)

theorem scale_eq (c : Dev nD) : scale m c = aAt m c * bAt m c := by
  refine congrArg₂ (fun x y : EReal => x * y) ?_ ?_
  · show m ((c.tc : Thread nD τ).loc main_arg2) _ = m ((c.tc : Thread nD τ).loc main_arg2) _
    congr 1
    funext a; apply Fin.ext
    match a with
    | ⟨0, _⟩ => rfl
  · show m ((c.tc : Thread nD τ).loc main_arg3) _ = m ((c.tc : Thread nD τ).loc main_arg3) _
    congr 1
    funext a; apply Fin.ext
    match a with
    | ⟨0, _⟩ => rfl

/-- The scaled sum's element, on device `c`. -/
def kerY (c : Dev nD) (i : Fin 256) (j : Fin 8192) : EReal := (∑ d : Dev nD, part m d (rowIx c i) j) * (aAt m c * bAt m c)

/-- The value stored for a scaled sum `y`, as the kernel computes it. -/
def gate (y : EReal) : EReal :=
  y * Ideal.div (Ideal.ofBits .f32 0x3F800000#32)
    (Ideal.ofBits .f32 0x3F800000#32 + Ideal.exp (Ideal.ofBits .f32 0x00000000#32 - min (Ideal.ofBits .f32 0x42700000#32) (max (Ideal.ofBits .f32 0xC2700000#32) y)))

/-- The vector exponential at an index. -/
theorem exp_apply {s : Shape} {φ : FTy} (a : FVec Ideal s φ) (i : s.Idx) : exp a i = Ideal.exp (a i) := rfl

theorem outV_apply (sc : EReal) (p : FVec Ideal S256x1024 .f32) (x : S256x1024.Idx) : outV (F := Ideal) sc p x = gate (p x * sc) := by
  have h : (mulf p (broadcast S256x1024 sc) : FVec Ideal S256x1024 .f32) x = p x * sc := rfl
  unfold outV gate
  rw [mulf_apply, h, divf_apply, addf_apply, exp_apply, subf_apply, minimumf_apply, maximumf_apply, h]
  simp only [broadcast_apply]
  rfl

/-- Every column is some ring's. -/
theorem exists_ring (j : Fin 8192) : ∃ (q : Fin 8) (l : Fin 1024), colIx q l = j := by
  have hb : ∀ b : Fin 8, ∃ q : Fin 8, col q = b.val * 1024 := by decide
  obtain ⟨q, hq⟩ := hb ⟨j.val / 1024, by have := j.isLt; omega⟩
  refine ⟨q, ⟨j.val % 1024, Nat.mod_lt _ (by decide)⟩, Fin.ext ?_⟩
  show col q + j.val % 1024 = j.val
  rw [hq]; dsimp only; omega

theorem outAt_apply (c : Dev nD) (i : Fin 256) (j : Fin 8192) : outAt m c (ix2 i j) = gate (kerY m c i j) := by
  obtain ⟨q, l, rfl⟩ := exists_ring j
  have h := congrFun (outAt_read m c q) (ix2 i l)
  rw [outV_apply, total_apply, scale_eq] at h
  refine Eq.trans ?_ h
  show outAt m c _ = outAt m c _
  congr 1
  funext a; apply Fin.ext
  match a with
  | ⟨0, _⟩ => show i.val = 0 + 1 * i.val; omega
  | ⟨1, _⟩ => show col q + l.val = col q + 1 * l.val; omega

/-- The result array after the run, element by element. -/
theorem final_apply (c : Dev nD) (i : Fin 256) (j : Fin 8192) : finalA m c (4 : Fin 5) (ix2 i j) = gate (kerY m c i j) := by
  have hd : ∀ t t' : Fin cfg0.N, (cfg0.win 4).flush t = true → (cfg0.win 4).flush t' = true → t ≠ t' →
      Disjoint ((cfg0.win 4).blk t).view.set ((cfg0.win 4).blk t').view.set :=
    fun t t' _ _ hne => absurd ((fin_N0 t).trans (fin_N0 t').symm) hne
  have h := congrFun ((dats (F := Ideal) m 0 c).read_blk_arrAt_eq_flushed 4 hd cfg0.N t0_0 t0_0.isLt (by decide)) (ix2 i j)
  refine Eq.trans ?_ (h.trans (outAt_apply m c i j))
  show (dats (F := Ideal) m 0 c).arrAt (4 : Fin 5) cfg0.N _ = (dats (F := Ideal) m 0 c).arrAt (4 : Fin 5) cfg0.N _
  congr 1
  funext a; apply Fin.ext
  match a with
  | ⟨0, _⟩ => show i.val = 0 * 256 + 1 * i.val; omega
  | ⟨1, _⟩ => show j.val = 0 * 8192 + 1 * j.val; omega

end Cert.Ring8

end
-- ==== Proof.Ref.lean ====
/-
  What the reference computes, over the reals: the scaled product of the whole arrays, over one plus the exponential of its
  clipped opposite.
-/
module

public import proofs.«01_k».proof.Proof.Gen.ReferenceIdeal.Value
public import Idealize.ShloMosaic.Lib.MatmulPlain
public import Idealize.ShloMosaic.Lib.ValueIdx

@[expose] public section

set_option maxRecDepth 20000

noncomputable section

namespace Cert.RefValue

open Cert.ReferenceIdeal Cert.ReferenceIdeal.Gen
open Idealize.ShloMosaic Idealize.ShloMosaic.TcCoe Idealize.ShloMosaic.ValueIdx Idealize.ShloMosaic.Tactic Idealize.SL Idealize.SL.Sem

variable (m : (ℓ : Loc nD τ sig) → Buf (Elt Ideal) ℓ)

/-- The reference's pure term. -/
def refV (x0 : Vec Ideal S4096x4096 .fp8e4m3) (x1 : Vec Ideal S4096x8192 .fp8e4m3) (a b : EReal) : FVec Ideal S4096x8192 .f32 :=
  let y : FVec Ideal S4096x8192 .f32 := mulf (matmul (F := Ideal) dot_S4096x4096_S4096x8192_S4096x8192_1_0_0_1_n_n none
    (extf .f32 (x0 : FVec Ideal _ .fp8e4m3) bitsLt_fp8e4m3_f32) (extf .f32 (x1 : FVec Ideal _ .fp8e4m3) bitsLt_fp8e4m3_f32) (constant S4096x8192 .f32 0x00000000#32)) (broadcast S4096x8192 (a * b : EReal))
  divf y (addf (broadcast S4096x8192 (Scalar.ofBits .f32 0x3F800000#32)) (exp (subf (broadcast S4096x8192 (Scalar.ofBits .f32 0x00000000#32))
    (minimumf (broadcast S4096x8192 (Scalar.ofBits .f32 0x42700000#32)) (maximumf (broadcast S4096x8192 (Scalar.ofBits .f32 0xC2700000#32)) y)))))

theorem out_eq (c : Dev nD) (t : Fin cfg0.N) : outsAt0 m c t = refV (iblk m c 0 t) (iblk m c 1 t) (iblk m c 2 t (ix1 0)) (iblk m c 3 t (ix1 0)) := by
  unfold outsAt0 out0_A_4
  rw [View.read_writes_eq_canon _ _ _ (cover0_A_4 c _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread]
  have z2 : (![0, 0] : Fin 2 → ℕ) = fun _ => 0 := by funext a; fin_cases a <;> rfl
  have z1 : (![0] : Fin 1 → ℕ) = fun _ => 0 := by funext a; fin_cases a; rfl
  have e : ∀ i : S1.Idx, i = ix1 0 := fun i => by rw [eq_ix1 i]; congr 1; exact Subsingleton.elim (α := Fin 1) _ _
  rw [View.canon_unit_zero (S := S4096x8192) z2]
  rw [View.ld_unit_zero (S := S4096x4096) z2, View.ld_unit_zero (S := S4096x8192) z2, View.ld_unit_zero (S := S1) z1, View.ld_unit_zero (S := S1) z1, e (Shape.Idx.first _)]
  unfold k0_pay1 refV
  rfl

/-- The arguments, element by element, as real numbers. -/
def x0At (r k : Fin 4096) : EReal := m (((0 : Dev nD).tc : Thread nD τ).loc main_arg0) (ix2 r k)
def x1At (k : Fin 4096) (j : Fin 8192) : EReal := m (((0 : Dev nD).tc : Thread nD τ).loc main_arg1) (ix2 k j)
def x2At : EReal := m (((0 : Dev nD).tc : Thread nD τ).loc main_arg2) (ix1 0)
def x3At : EReal := m (((0 : Dev nD).tc : Thread nD τ).loc main_arg3) (ix1 0)

/-- The scaled product's element. -/
def refY (r : Fin 4096) (j : Fin 8192) : EReal := (∑ k : Fin 4096, x0At m r k * x1At m k j) * (x2At m * x3At m)

/-- One plus the exponential of the clipped opposite. -/
def den (y : EReal) : EReal :=
  Ideal.ofBits .f32 0x3F800000#32 + Ideal.exp (Ideal.ofBits .f32 0x00000000#32 - min (Ideal.ofBits .f32 0x42700000#32) (max (Ideal.ofBits .f32 0xC2700000#32) y))

/-- The vector exponential at an index. -/
theorem exp_apply {s : Shape} {φ : FTy} (a : FVec Ideal s φ) (i : s.Idx) : exp a i = Ideal.exp (a i) := rfl

theorem dot_plain : dot_S4096x4096_S4096x8192_S4096x8192_1_0_0_1_n_n = DotDims.plain 4096 4096 8192 := rfl

theorem refV_apply (x0 : Vec Ideal S4096x4096 .fp8e4m3) (x1 : Vec Ideal S4096x8192 .fp8e4m3) (a b : EReal) (r : Fin 4096) (j : Fin 8192) :
    refV x0 x1 a b (ix2 r j) = Ideal.div ((∑ k : Fin 4096, x0 (ix2 r k) * x1 (ix2 k j)) * (a * b)) (den ((∑ k : Fin 4096, x0 (ix2 r k) * x1 (ix2 k j)) * (a * b))) := by
  have h : mulf (matmul (F := Ideal) dot_S4096x4096_S4096x8192_S4096x8192_1_0_0_1_n_n none
      (extf .f32 (x0 : FVec Ideal _ .fp8e4m3) bitsLt_fp8e4m3_f32) (extf .f32 (x1 : FVec Ideal _ .fp8e4m3) bitsLt_fp8e4m3_f32) (constant S4096x8192 .f32 0x00000000#32)) (broadcast S4096x8192 (a * b : EReal)) (ix2 r j)
      = (∑ k : Fin 4096, x0 (ix2 r k) * x1 (ix2 k j)) * (a * b) := by
    rw [mulf_apply, dot_plain]
    refine congrArg (· * (a * b)) ?_
    refine (Ideal.matmul_plain_apply _ _ _ _ r j).trans ?_
    rw [constant_apply, Ideal.ofBits_zero_f32, zero_add]
    rfl
  unfold refV den
  rw [divf_apply, h, addf_apply, exp_apply, subf_apply, minimumf_apply, maximumf_apply, h]
  simp only [broadcast_apply]
  rfl

theorem iblk_eq (c : Dev nD) (t : Fin cfg0.N) (r : Fin 4096) (k : Fin 4096) : iblk m c 0 t (ix2 r k) = m ((c.tc : Thread nD τ).loc main_arg0) (ix2 r k) := by
  show m ((c.tc : Thread nD τ).loc main_arg0) _ = m ((c.tc : Thread nD τ).loc main_arg0) _
  congr 1
  funext a; apply Fin.ext
  match a with
  | ⟨0, _⟩ => show 0 * 4096 + 1 * r.val = r.val; omega
  | ⟨1, _⟩ => show 0 * 4096 + 1 * k.val = k.val; omega

theorem iblk_eq1 (c : Dev nD) (t : Fin cfg0.N) (r : Fin 4096) (k : Fin 8192) : iblk m c 1 t (ix2 r k) = m ((c.tc : Thread nD τ).loc main_arg1) (ix2 r k) := by
  show m ((c.tc : Thread nD τ).loc main_arg1) _ = m ((c.tc : Thread nD τ).loc main_arg1) _
  congr 1
  funext a; apply Fin.ext
  match a with
  | ⟨0, _⟩ => show 0 * 4096 + 1 * r.val = r.val; omega
  | ⟨1, _⟩ => show 0 * 8192 + 1 * k.val = k.val; omega

theorem iblk_eq2 (c : Dev nD) (t : Fin cfg0.N) : iblk m c 2 t (ix1 0) = m ((c.tc : Thread nD τ).loc main_arg2) (ix1 0) := by
  show m ((c.tc : Thread nD τ).loc main_arg2) _ = m ((c.tc : Thread nD τ).loc main_arg2) _
  congr 1
  funext a; apply Fin.ext
  match a with
  | ⟨0, _⟩ => rfl

theorem iblk_eq3 (c : Dev nD) (t : Fin cfg0.N) : iblk m c 3 t (ix1 0) = m ((c.tc : Thread nD τ).loc main_arg3) (ix1 0) := by
  show m ((c.tc : Thread nD τ).loc main_arg3) _ = m ((c.tc : Thread nD τ).loc main_arg3) _
  congr 1
  funext a; apply Fin.ext
  match a with
  | ⟨0, _⟩ => rfl

/-- The reference's result, element by element. -/
theorem final_apply (r : Fin 4096) (j : Fin 8192) :
    (dats m 0 (0 : Dev nD)).arrAt (4 : Fin 5) cfg0.N (ix2 r j) = Ideal.div (refY m r j) (den (refY m r j)) := by
  have h := congrFun (Value.blocks4 (F := Ideal) m 0 t0_0 (by decide)) (ix2 r j)
  rw [Value.flushed4, out_eq] at h
  refine Eq.trans ?_ (h.trans ((refV_apply _ _ _ _ r j).trans ?_))
  · show (dats m 0 (0 : Dev nD)).arrAt (4 : Fin 5) cfg0.N _ = (dats m 0 (0 : Dev nD)).arrAt (4 : Fin 5) cfg0.N _
    congr 1
    funext a; apply Fin.ext
    match a with
    | ⟨0, _⟩ => show r.val = 0 * 4096 + 1 * r.val; omega
    | ⟨1, _⟩ => show j.val = 0 * 8192 + 1 * j.val; omega
  · simp only [iblk_eq, iblk_eq1, iblk_eq2, iblk_eq3]
    rfl

end Cert.RefValue

end
-- ==== Proof.Algebra.lean ====
/-
  Kernel and reference compute one function over the reals: the devices' sums are the whole product's, and a factor of the
  reciprocal is a quotient.
-/
module

public import proofs.«01_k».proof.Defs
public import proofs.«01_k».proof.Proof.Frames
public import proofs.«01_k».proof.Proof.Values
public import proofs.«01_k».proof.Proof.Ref

@[expose] public section

set_option maxRecDepth 20000

noncomputable section

namespace Cert.Equal

open Idealize.ShloMosaic Idealize.ShloMosaic.TcCoe Idealize.ShloMosaic.ValueIdx Idealize.SL Idealize.SL.Sem
open Cert.RefValue (x0At x1At x2At x3At refY den)
open Cert.Ring8 (xAt wAt aAt bAt part kerY gate finalA rowIx)

/-! ## The epilogue -/

theorem one_bits : Ideal.ofBits .f32 0x3F800000#32 = ((1 : ℝ) : EReal) := by simp [Ideal.ofBits, Ideal.ieee, -EReal.coe_mul]; norm_num
theorem sixty_bits : Ideal.ofBits .f32 0x42700000#32 = ((60 : ℝ) : EReal) := by simp [Ideal.ofBits, Ideal.ieee, -EReal.coe_mul]; norm_num
theorem neg_bits : Ideal.ofBits .f32 0xC2700000#32 = ((-60 : ℝ) : EReal) := by simp [Ideal.ofBits, Ideal.ieee, -EReal.coe_mul]; norm_num

/-- Clipping leaves a real number, whatever the value. -/
theorem clip_real (y : EReal) : ∃ r : ℝ, min (((60 : ℝ) : EReal)) (max ((-60 : ℝ) : EReal) y) = (r : EReal) := by
  induction y with
  | bot => exact ⟨-60, by rw [max_eq_left bot_le]; exact min_eq_right (by exact_mod_cast (by norm_num : (-60 : ℝ) ≤ 60))⟩
  | top => exact ⟨60, by rw [max_eq_right le_top]; exact min_eq_left le_top⟩
  | coe x => exact ⟨min 60 (max (-60) x), by norm_cast⟩

/-- The divisor is a real number, and not zero. -/
theorem den_real (y : EReal) : ∃ r : ℝ, r ≠ 0 ∧ den y = (r : EReal) := by
  obtain ⟨r, hr⟩ := clip_real y
  refine ⟨1 + Real.exp (0 - r), by positivity, ?_⟩
  unfold den
  rw [one_bits, sixty_bits, neg_bits, Ideal.ofBits_zero_f32, hr, ← EReal.coe_zero, ← EReal.coe_sub, Ideal.exp_coe, ← EReal.coe_add]

theorem gate_eq (y : EReal) : gate y = Ideal.div y (den y) := by
  obtain ⟨r, hr, e⟩ := den_real y
  show y * Ideal.div (Ideal.ofBits .f32 0x3F800000#32) (den y) = _
  rw [e, Ideal.div_coe hr, Ideal.div_coe hr, one_bits, EReal.coe_one, one_mul]

/-! ## The sums -/

/-- The contraction cut into the devices' parts. -/
theorem sum_blocks (f : Fin 4096 → EReal) : ∑ k : Fin 4096, f k = ∑ d : Fin 16, ∑ k : Fin 256, f ⟨256 * d.val + k.val, by omega⟩ := by
  refine ((Equiv.sum_comp (finProdFinEquiv : Fin 16 × Fin 256 ≃ Fin (16 * 256)) f).symm).trans ?_
  rw [Fintype.sum_prod_type]
  refine Finset.sum_congr rfl fun d _ => Finset.sum_congr rfl fun k _ => congrArg f (Fin.ext ?_)
  show k.val + 256 * d.val = 256 * d.val + k.val
  omega

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The launches agree: each device holds its part of the reference's arguments. -/
def Agree : Prop := ∀ c : Dev Cert.KernelIdeal.nD,
  m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
  ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))
  ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
  ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)

variable {m m'} (h : Agree m m')
include h

theorem xAt_eq (d : Fin 16) (r : Fin 4096) (k : Fin 256) : xAt m d r k = x0At m' r ⟨256 * d.val + k.val, by omega⟩ := by
  refine (congrFun (h d).1 (ix2 r k)).trans ?_
  show m' _ _ = m' _ _
  congr 1
  funext a; apply Fin.ext
  match a with
  | ⟨0, _⟩ => rfl
  | ⟨1, _⟩ => show d.val * 256 + k.val = 256 * d.val + k.val; omega

theorem wAt_eq (d : Fin 16) (k : Fin 256) (j : Fin 8192) : wAt m d k j = x1At m' ⟨256 * d.val + k.val, by omega⟩ j := by
  refine (congrFun (h d).2.1 (ix2 k j)).trans ?_
  show m' _ _ = m' _ _
  congr 1
  funext a; apply Fin.ext
  match a with
  | ⟨0, _⟩ => show d.val * 256 + k.val = 256 * d.val + k.val; omega
  | ⟨1, _⟩ => rfl

theorem kerY_eq (c : Dev Cert.KernelIdeal.nD) (i : Fin 256) (j : Fin 8192) : kerY m c i j = refY m' (rowIx c i) j := by
  unfold kerY refY
  refine congrArg₂ (· * ·) ?_ (congrArg₂ (· * ·) (congrFun (h c).2.2.1 (ix1 0)) (congrFun (h c).2.2.2 (ix1 0)))
  rw [sum_blocks]
  refine Finset.sum_congr rfl fun d _ => Finset.sum_congr rfl fun k _ => ?_
  rw [xAt_eq h, wAt_eq h]

/-- Each device's result is its block of the reference's. -/
theorem result_eq (c : Dev Cert.KernelIdeal.nD) :
    finalA m c (4 : Fin 5) = Layout.block ⟨2, ![256, 8192]⟩ ⟨2, ![4096, 8192]⟩ 0 16 c ((Cert.ReferenceIdeal.Gen.dats m' 0 (0 : Dev Cert.ReferenceIdeal.nD)).arrAt (4 : Fin 5) Cert.ReferenceIdeal.cfg0.N) := by
  funext x
  obtain ⟨i, j, rfl⟩ : ∃ (i : Fin 256) (j : Fin 8192), x = ix2 i j := ⟨x 0, x 1, eq_ix2 x⟩
  refine (Cert.Ring8.final_apply m c i j).trans ?_
  rw [gate_eq, kerY_eq h]
  refine (Cert.RefValue.final_apply m' (rowIx c i) j).symm.trans ?_
  show (Cert.ReferenceIdeal.Gen.dats m' 0 (0 : Dev Cert.ReferenceIdeal.nD)).arrAt (4 : Fin 5) Cert.ReferenceIdeal.cfg0.N _ = (Cert.ReferenceIdeal.Gen.dats m' 0 (0 : Dev Cert.ReferenceIdeal.nD)).arrAt (4 : Fin 5) Cert.ReferenceIdeal.cfg0.N _
  congr 1
  funext a; apply Fin.ext
  match a with
  | ⟨0, _⟩ => show 256 * c.val + i.val = c.val * 256 + i.val; omega
  | ⟨1, _⟩ => rfl

omit h in
theorem algebraic : Cert.algebraic_KernelIdeal_ReferenceIdeal (hKernelIdeal := Cert.KernelIdeal.Gen.facts) (hReferenceIdeal := Cert.ReferenceIdeal.Gen.facts) := by
  intro m g m' g' _ h
  refine ⟨(Cert.ReferenceIdeal.Gen.dats m' 0 (0 : Dev Cert.ReferenceIdeal.nD)).arrAt (4 : Fin 5) Cert.ReferenceIdeal.cfg0.N, ?_, ?_⟩
  · exact (θ_run Cert.KernelIdeal.defs _ _).mono (fun r hr c => ⟨(hr.1 c (4 : Fin 5)).trans (result_eq (m := m) (m' := m') h c),
      (hr.1 c (0 : Fin 5)).trans (Cert.Ring8.finalA_0 m c), (hr.1 c (1 : Fin 5)).trans (Cert.Ring8.finalA_1 m c),
      (hr.1 c (2 : Fin 5)).trans (Cert.Ring8.finalA_2 m c), (hr.1 c (3 : Fin 5)).trans (Cert.Ring8.finalA_3 m c)⟩) (Cert.Ring8.run_main (F := Ideal) m g)
  · exact (θ_run Cert.ReferenceIdeal.defs _ _).mono (fun r hr => hr (0 : Dev Cert.ReferenceIdeal.nD)) (Cert.ReferenceIdeal.Value.run_blocks (F := Ideal) m' g')

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Frames
public import proofs.«01_k».proof.Proof.Gen.ReferenceIdeal.Value
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Ring8.frame_printed, Cert.Ring8.frame_ideal,
  fun m ρ _ => Cert.ReferenceIdeal.Gen.frame m ρ, trivial, Cert.Equal.algebraic⟩

end Cert.Proof

end
